-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "loss_scale" .f32 0x328BCF65#32 ((13421773 / 824633720832000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_5) = v1 c
          ∧ r.2.mem ((c.tc : Thread Cert.ReferenceIdeal.nD Cert.ReferenceIdeal.τ).loc Cert.ReferenceIdeal.main_v4_4) = v2 c
          ∧ r.2.mem ((c.tc : Thread Cert.ReferenceIdeal.nD Cert.ReferenceIdeal.τ).loc Cert.ReferenceIdeal.main_v4_6) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1500x512 : Shape := ⟨3, ![8, 1500, 512]⟩
abbrev S8x1024x512 : Shape := ⟨3, ![8, 1024, 512]⟩
abbrev S_ : Shape := ⟨0, ![]⟩

class Facts : Prop where
  bcast_S_S8x1500x512 : S_.BroadcastsInDim S8x1500x512 (![] : Fin 0 → Fin S8x1500x512.rank)
  bcast_S_S8x1024x512 : S_.BroadcastsInDim S8x1024x512 (![] : Fin 0 → Fin S8x1024x512.rank)

variable [Facts]

def fn {F : FTy → Type} [FloatOps F] (main_arg0 : FVec F S8x1500x512 .f32) (main_arg1 : FVec F S8x1024x512 .f32) : IVec S8x1500x512 1 × IVec S8x1024x512 1 :=
  let main_v0 : FVec F S8x1500x512 .f32 := Host.absf main_arg0
  let main_cst : FVec F S_ .f32 := constant S_ .f32 0x7F800000#32
  let main_v1 : FVec F S8x1500x512 .f32 := broadcastInDim S8x1500x512 ![] bcast_S_S8x1500x512 main_cst
  let main_v2 : IVec S8x1500x512 1 := cmpf .olt main_v0 main_v1
  let main_v3 : FVec F S8x1024x512 .f32 := Host.absf main_arg1
  let main_cst_0 : FVec F S_ .f32 := constant S_ .f32 0x7F800000#32
  let main_v4 : FVec F S8x1024x512 .f32 := broadcastInDim S8x1024x512 ![] bcast_S_S8x1024x512 main_cst_0
  let main_v5 : IVec S8x1024x512 1 := cmpf .olt main_v3 main_v4
  (main_v2, main_v5)
-- ==== Kernel.lean ====
abbrev S8x1500x512 : Shape := ⟨3, ![8, 1500, 512]⟩
abbrev S8x1024x512 : Shape := ⟨3, ![8, 1024, 512]⟩
abbrev S8x8x1x1500 : Shape := ⟨4, ![8, 8, 1, 1500]⟩
abbrev S1x1 : Shape := ⟨2, ![1, 1]⟩
abbrev S8x8x1500x512 : Shape := ⟨4, ![8, 8, 1500, 512]⟩
abbrev S8x1500x1024 : Shape := ⟨3, ![8, 1500, 1024]⟩
abbrev S_ : Shape := ⟨0, ![]⟩
abbrev S8x8x1500 : Shape := ⟨3, ![8, 8, 1500]⟩
abbrev S1x1500x512 : Shape := ⟨3, ![1, 1500, 512]⟩
abbrev S1x1024x512 : Shape := ⟨3, ![1, 1024, 512]⟩
abbrev S1x1x1x1500 : Shape := ⟨4, ![1, 1, 1, 1500]⟩
abbrev S1x1x1500x512 : Shape := ⟨4, ![1, 1, 1500, 512]⟩
abbrev S1x1500x1024 : Shape := ⟨3, ![1, 1500, 1024]⟩
abbrev S1500x512 : Shape := ⟨2, ![1500, 512]⟩
abbrev S1024x512 : Shape := ⟨2, ![1024, 512]⟩
abbrev S1500 : Shape := ⟨1, ![1500]⟩
abbrev S1500x1 : Shape := ⟨2, ![1500, 1]⟩
abbrev S1024 : Shape := ⟨1, ![1024]⟩
abbrev S1500x1024 : Shape := ⟨2, ![1500, 1024]⟩
abbrev S1x1024 : Shape := ⟨2, ![1, 1024]⟩
abbrev S1x1500x1 : Shape := ⟨3, ![1, 1500, 1]⟩
abbrev S1 : Shape := ⟨1, ![1]⟩
abbrev S1x1x1 : Shape := ⟨3, ![1, 1, 1]⟩

abbrev nBuf : Space → Nat
  | .hbm => 9
  | .vmem => 14
  | .smem => 0
  | _ => 0

abbrev bufTy : (tb : Table) → Fin (tcTables nBuf tb) → BufTy
  | .hbm, ⟨0, _⟩ => ⟨S8x1500x512, .f32⟩
  | .hbm, ⟨1, _⟩ => ⟨S8x1024x512, .f32⟩
  | .hbm, ⟨2, _⟩ => ⟨S8x1500x512, .f32⟩
  | .hbm, ⟨3, _⟩ => ⟨S8x8x1x1500, .i32⟩
  | .hbm, ⟨4, _⟩ => ⟨S1x1, .f32⟩
  | .hbm, ⟨5, _⟩ => ⟨S8x8x1500x512, .f32⟩
  | .hbm, ⟨6, _⟩ => ⟨S8x1500x1024, .f32⟩
  | .hbm, ⟨7, _⟩ => ⟨S_, .f32⟩
  | .hbm, ⟨8, _⟩ => ⟨S8x8x1500, .i32⟩
  | .local _ .vmem, ⟨0, _⟩ => ⟨S1x1500x512, .f32⟩
  | .local _ .vmem, ⟨1, _⟩ => ⟨S1x1500x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1500x512, .f32⟩
  | .local _ .vmem, ⟨5, _⟩ => ⟨S1x1500x512, .f32⟩
  | .local _ .vmem, ⟨6, _⟩ => ⟨S1x1x1x1500, .i32⟩
  | .local _ .vmem, ⟨7, _⟩ => ⟨S1x1x1x1500, .i32⟩
  | .local _ .vmem, ⟨8, _⟩ => ⟨S1x1, .f32⟩
  | .local _ .vmem, ⟨9, _⟩ => ⟨S1x1x1500x512, .f32⟩
  | .local _ .vmem, ⟨10, _⟩ => ⟨S1x1x1500x512, .f32⟩
  | .local _ .vmem, ⟨11, _⟩ => ⟨S1x1500x1024, .f32⟩
  | .local _ .vmem, ⟨12, _⟩ => ⟨S1x1500x1024, .f32⟩
  | .local _ .vmem, ⟨13, _⟩ => ⟨S1500x512, .f32⟩
  | _, _ => ⟨S8x1500x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_v0_3 : Ref sig .tc := ⟨.hbm, 5, rfl⟩
abbrev main_v0_4 : Ref sig .tc := ⟨.hbm, 6, rfl⟩
abbrev main_v0_2 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c0_i32_23 : BitVec 32 := 0#32
  let v55 : BitVec 1 := Scalar.cmpi .eq arg1 c0_i32_23
  let v56 : BitVec 32 := Scalar.extui v55
  let c0_i32_24 : BitVec 32 := 0#32
  let v57 : BitVec 1 := Scalar.cmpi .ne v56 c0_i32_24
  v57

def k0_cond4 (i : grid0.Coords) : BitVec 1 :=
  let arg1 : BitVec 32 := BitVec.ofNat 32 (i 1).val
  let c0_i32_25 : BitVec 32 := 0#32
  let v58 : BitVec 1 := Scalar.cmpi .sgt arg1 c0_i32_25
  let v59 : BitVec 32 := Scalar.extui v58
  let c0_i32_26 : BitVec 32 := 0#32
  let v60 : BitVec 1 := Scalar.cmpi .ne v59 c0_i32_26
  v60

def k0_cond5 (i : grid0.Coords) : BitVec 1 :=
  let arg0 : BitVec 32 := BitVec.ofNat 32 (i 0).val
  let c0_i32_29 : BitVec 32 := 0#32
  let v67 : BitVec 1 := Scalar.cmpi .eq arg0 c0_i32_29
  let arg1 : BitVec 32 := BitVec.ofNat 32 (i 1).val
  let c0_i32_30 : BitVec 32 := 0#32
  let v68 : BitVec 1 := Scalar.cmpi .eq arg1 c0_i32_30
  let v69 : BitVec 1 := Scalar.andi v67 v68
  let v70 : BitVec 32 := Scalar.extui v69
  let c0_i32_31 : BitVec 32 := 0#32
  let v71 : BitVec 1 := Scalar.cmpi .ne v70 c0_i32_31
  v71

def k0_cond6 (i : grid0.Coords) : BitVec 1 :=
  let arg0 : BitVec 32 := BitVec.ofNat 32 (i 0).val
  let c0_i32_32 : BitVec 32 := 0#32
  let v72 : BitVec 1 := Scalar.cmpi .sgt arg0 c0_i32_32
  let arg1 : BitVec 32 := BitVec.ofNat 32 (i 1).val
  let c0_i32_33 : BitVec 32 := 0#32
  let v73 : BitVec 1 := Scalar.cmpi .sgt arg1 c0_i32_33
  let v74 : BitVec 1 := Scalar.ori v72 v73
  let v75 : BitVec 32 := Scalar.extui v74
  let c0_i32_34 : BitVec 32 := 0#32
  let v76 : BitVec 1 := Scalar.cmpi .ne v75 c0_i32_34
  v76

def k0_cond2 (i : grid0.Coords) : BitVec 1 :=
  let arg1 : BitVec 32 := BitVec.ofNat 32 (i 1).val
  let c0_i32_8 : BitVec 32 := 0#32
  let v19 : BitVec 1 := Scalar.cmpi .eq arg1 c0_i32_8
  let v20 : BitVec 32 := Scalar.extui v19
  let c0_i32_9 : BitVec 32 := 0#32
  let v21 : BitVec 1 := Scalar.cmpi .ne v20 c0_i32_9
  v21

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg1.toNat, v16.toNat, v26.toNat, c0_i32_11.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S1x1500x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1500x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1500 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1500x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1500x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "loss_scale" => some ((13421773 / 824633720832000 : ℝ) : EReal)
  | _ => none
-- ==== ReferenceIdeal.lean ====
abbrev S8x1500x512 : Shape := ⟨3, ![8, 1500, 512]⟩
abbrev S8x1024x512 : Shape := ⟨3, ![8, 1024, 512]⟩
abbrev S12000x512 : Shape := ⟨2, ![12000, 512]⟩
abbrev S_ : Shape := ⟨0, ![]⟩
abbrev S8x8x1500 : Shape := ⟨3, ![8, 8, 1500]⟩
abbrev S8x8x1500x512 : Shape := ⟨4, ![8, 8, 1500, 512]⟩
abbrev S1x1024x512 : Shape := ⟨3, ![1, 1024, 512]⟩
abbrev S1024x512 : Shape := ⟨2, ![1024, 512]⟩
abbrev S12000 : Shape := ⟨1, ![12000]⟩
abbrev S12000x1 : Shape := ⟨2, ![12000, 1]⟩
abbrev S512x1024 : Shape := ⟨2, ![512, 1024]⟩
abbrev S12000x1024 : Shape := ⟨2, ![12000, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x1500 : Shape := ⟨2, ![8, 1500]⟩
abbrev S1x8x1500 : Shape := ⟨3, ![1, 8, 1500]⟩
abbrev S1x8x1500x512 : Shape := ⟨4, ![1, 8, 1500, 512]⟩
abbrev S8x1500x1024 : Shape := ⟨3, ![8, 1500, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x1500x512, .f32⟩
  | .hbm, ⟨1, _⟩ => ⟨S8x1024x512, .f32⟩
  | .hbm, ⟨2, _⟩ => ⟨S12000x512, .f32⟩
  | .hbm, ⟨3, _⟩ => ⟨S_, .f32⟩
  | .hbm, ⟨4, _⟩ => ⟨S12000x512, .f32⟩
  | .hbm, ⟨5, _⟩ => ⟨S_, .f32⟩
  | .hbm, ⟨6, _⟩ => ⟨S_, .i32⟩
  | .hbm, ⟨7, _⟩ => ⟨S8x8x1500, .i32⟩
  | .hbm, ⟨8, _⟩ => ⟨S_, .f32⟩
  | .hbm, ⟨9, _⟩ => ⟨S8x8x1500x512, .f32⟩
  | .hbm, ⟨10, _⟩ => ⟨S_, .i32⟩
  | .hbm, ⟨11, _⟩ => ⟨S8x1024x512, .f32⟩
  | .hbm, ⟨12, _⟩ => ⟨S_, .i32⟩
  | .hbm, ⟨13, _⟩ => ⟨S12000x512, .f32⟩
  | .hbm, ⟨14, _⟩ => ⟨S12000x512, .f32⟩
  | .hbm, ⟨15, _⟩ => ⟨S_, .f32⟩
  | .hbm, ⟨16, _⟩ => ⟨S8x8x1500, .i32⟩
  | .hbm, ⟨17, _⟩ => ⟨S8x8x1500x512, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x1024x512, .f32⟩
  | .hbm, ⟨23, _⟩ => ⟨S1024x512, .f32⟩
  | .hbm, ⟨24, _⟩ => ⟨S12000x512, .f32⟩
  | .hbm, ⟨25, _⟩ => ⟨S_, .f32⟩
  | .hbm, ⟨26, _⟩ => ⟨S12000, .f32⟩
  | .hbm, ⟨27, _⟩ => ⟨S12000x1, .f32⟩
  | .hbm, ⟨28, _⟩ => ⟨S512x1024, .f32⟩
  | .hbm, ⟨29, _⟩ => ⟨S12000x1024, .f32⟩
  | .hbm, ⟨30, _⟩ => ⟨S_, .f32⟩
  | .hbm, ⟨31, _⟩ => ⟨S12000x1024, .f32⟩
  | .hbm, ⟨32, _⟩ => ⟨S12000x1024, .f32⟩
  | .hbm, ⟨33, _⟩ => ⟨S12000x1024, .f32⟩
  | .hbm, ⟨34, _⟩ => ⟨S12000x1024, .f32⟩
  | .hbm, ⟨35, _⟩ => ⟨S1024x512, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S12000x1024, .f32⟩
  | .hbm, ⟨40, _⟩ => ⟨S12000x1024, .f32⟩
  | .hbm, ⟨41, _⟩ => ⟨S12000x1024, .i32⟩
  | .hbm, ⟨42, _⟩ => ⟨S_, .f32⟩
  | .hbm, ⟨43, _⟩ => ⟨S_, .i32⟩
  | .hbm, ⟨44, _⟩ => ⟨S12000, .f32⟩
  | .hbm, ⟨45, _⟩ => ⟨S12000, .i32⟩
  | .hbm, ⟨46, _⟩ => ⟨S_, .i32⟩
  | .hbm, ⟨47, _⟩ => ⟨S12000, .i32⟩
  | .hbm, ⟨48, _⟩ => ⟨S12000, .i1⟩
  | .hbm, ⟨49, _⟩ => ⟨S_, .i32⟩
  | .hbm, ⟨50, _⟩ => ⟨S12000, .i32⟩
  | .hbm, ⟨51, _⟩ => ⟨S12000, .i32⟩
  | .hbm, ⟨52, _⟩ => ⟨S12000, .i32⟩
  | .hbm, ⟨53, _⟩ => ⟨S12000x1, .i32⟩
  | .hbm, ⟨54, _⟩ => ⟨S1, .i32⟩
  | .hbm, ⟨55, _⟩ => ⟨S_, .i32⟩
  | .hbm, ⟨56, _⟩ => ⟨S12000x1, .i32⟩
  | .hbm, ⟨57, _⟩ => ⟨S12000x1, .i1⟩
  | .hbm, ⟨58, _⟩ => ⟨S1x1, .i32⟩
  | .hbm, ⟨59, _⟩ => ⟨S12000x1, .i32⟩
  | .hbm, ⟨60, _⟩ => ⟨S12000x1, .i1⟩
  | .hbm, ⟨61, _⟩ => ⟨S12000x1, .i1⟩
  | .hbm, ⟨62, _⟩ => ⟨S_, .i1⟩
  | .hbm, ⟨63, _⟩ => ⟨S12000, .i1⟩
  | .hbm, ⟨64, _⟩ => ⟨S12000x512, .f32⟩
  | .hbm, ⟨65, _⟩ => ⟨S12000x512, .i1⟩
  | .hbm, ⟨66, _⟩ => ⟨S_, .f32⟩
  | .hbm, ⟨67, _⟩ => ⟨S12000x512, .f32⟩
  | .hbm, ⟨68, _⟩ => ⟨S12000x512, .f32⟩
  | .hbm, ⟨69, _⟩ => ⟨S12000x512, .f32⟩
  | .hbm, ⟨70, _⟩ => ⟨S12000x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S12000x512, .f32⟩
  | .hbm, ⟨79, _⟩ => ⟨S12000x512, .f32⟩
  | .hbm, ⟨80, _⟩ => ⟨S12000x512, .f32⟩
  | .hbm, ⟨81, _⟩ => ⟨S12000x512, .f32⟩
  | .hbm, ⟨82, _⟩ => ⟨S8x1500, .i32⟩
  | .hbm, ⟨83, _⟩ => ⟨S8x1500x512, .f32⟩
  | .hbm, ⟨84, _⟩ => ⟨S1x8x1500, .i32⟩
  | .hbm, ⟨85, _⟩ => ⟨S_, .i32⟩
  | .hbm, ⟨86, _⟩ => ⟨S_, .i32⟩
  | .hbm, ⟨87, _⟩ => ⟨S8x8x1500, .i32⟩
  | .hbm, ⟨88, _⟩ => ⟨S1x8x1500x512, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S8x8x1500x512, .f32⟩
  | .hbm, ⟨93, _⟩ => ⟨S_, .i32⟩
  | .hbm, ⟨94, _⟩ => ⟨S_, .i32⟩
  | .hbm, ⟨95, _⟩ => ⟨S8x1500x512, .f32⟩
  | .hbm, ⟨96, _⟩ => ⟨S1x1024x512, .f32⟩
  | .hbm, ⟨97, _⟩ => ⟨S1024x512, .f32⟩
  | .hbm, ⟨98, _⟩ => ⟨S12000x512, .f32⟩
  | .hbm, ⟨99, _⟩ => ⟨S_, .f32⟩
  | .hbm, ⟨100, _⟩ => ⟨S12000, .f32⟩
  | .hbm, ⟨101, _⟩ => ⟨S12000x1, .f32⟩
  | .hbm, ⟨102, _⟩ => ⟨S512x1024, .f32⟩
  | .hbm, ⟨103, _⟩ => ⟨S12000x1024, .f32⟩
  | .hbm, ⟨104, _⟩ => ⟨S_, .f32⟩
  | .hbm, ⟨105, _⟩ => ⟨S12000x1024, .f32⟩
  | .hbm, ⟨106, _⟩ => ⟨S12000x1024, .f32⟩
  | .hbm, ⟨107, _⟩ => ⟨S12000x1024, .f32⟩
  | .hbm, ⟨108, _⟩ => ⟨S12000x1024, .f32⟩
  | .hbm, ⟨109, _⟩ => ⟨S1024x512, .f32⟩
  | .hbm, ⟨110, _⟩ => ⟨S_, .f32⟩
  | .hbm, ⟨111, _⟩ => ⟨S1024, .f32⟩
  | .hbm, ⟨112, _⟩ => ⟨S1x1024, .f32⟩
  | .hbm, ⟨113, _⟩ => ⟨S12000x1024, .f32⟩
  | .hbm, ⟨114, _⟩ => ⟨S12000x1024, .f32⟩
  | .hbm, ⟨115, _⟩ => ⟨S8x1500x1024, .f32⟩
  | _, _ => ⟨S8x1500x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_c : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_c_2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_while0c_c_12 : Ref sig .tc := ⟨.hbm, 18, rfl⟩
abbrev main_while0c_v23 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v23 : Ref sig .tc := ⟨.hbm, 23, rfl⟩
abbrev main_while0b_v24 : Ref sig .tc := ⟨.hbm, 24, rfl⟩
abbrev main_while0b_cst_12 : Ref sig .tc := ⟨.hbm, 25, rfl⟩
abbrev main_while0b_v25 : Ref sig .tc := ⟨.hbm, 26, rfl⟩
abbrev main_while0b_v26 : Ref sig .tc := ⟨.hbm, 27, rfl⟩
abbrev main_while0b_v27 : Ref sig .tc := ⟨.hbm, 28, rfl⟩
abbrev main_while0b_v28 : Ref sig .tc := ⟨.hbm, 29, rfl⟩
abbrev main_while0b_cst_13 : Ref sig .tc := ⟨.hbm, 30, rfl⟩
abbrev main_while0b_v29 : Ref sig .tc := ⟨.hbm, 31, rfl⟩
abbrev main_while0b_v30 : Ref sig .tc := ⟨.hbm, 32, rfl⟩
abbrev main_while0b_v31 : Ref sig .tc := ⟨.hbm, 33, rfl⟩
abbrev main_while0b_v32 : Ref sig .tc := ⟨.hbm, 34, rfl⟩
abbrev main_while0b_v33 : Ref sig .tc := ⟨.hbm, 35, rfl⟩
abbrev main_while0b_cst_14 : Ref sig .tc := ⟨.hbm, 36, rfl⟩
abbrev main_while0b_v34 : Ref sig .tc := ⟨.hbm, 37, rfl⟩
abbrev main_while0b_v35 : Ref sig .tc := ⟨.hbm, 38, rfl⟩
abbrev main_while0b_v36 : Ref sig .tc := ⟨.hbm, 39, rfl⟩
abbrev main_while0b_v37 : Ref sig .tc := ⟨.hbm, 40, rfl⟩
abbrev main_while0b_call1_v0 : Ref sig .tc := ⟨.hbm, 41, rfl⟩
abbrev main_while0b_call1_cst : Ref sig .tc := ⟨.hbm, 42, rfl⟩
abbrev main_while0b_call1_c : Ref sig .tc := ⟨.hbm, 43, rfl⟩
abbrev main_while0b_call1_v1_0 : Ref sig .tc := ⟨.hbm, 44, rfl⟩
abbrev main_while0b_v38 : Ref sig .tc := ⟨.hbm, 45, rfl⟩
abbrev main_while0b_call2_c : Ref sig .tc := ⟨.hbm, 46, rfl⟩
abbrev main_while0b_call2_v0 : Ref sig .tc := ⟨.hbm, 47, rfl⟩
abbrev main_while0b_call2_v1 : Ref sig .tc := ⟨.hbm, 48, rfl⟩
abbrev main_while0b_call2_c_0 : Ref sig .tc := ⟨.hbm, 49, rfl⟩
abbrev main_while0b_call2_v2 : Ref sig .tc := ⟨.hbm, 50, rfl⟩
abbrev main_while0b_call2_v3 : Ref sig .tc := ⟨.hbm, 51, rfl⟩
abbrev main_while0b_call2_v4 : Ref sig .tc := ⟨.hbm, 52, rfl⟩
abbrev main_while0b_call2_v5 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v6 : Ref sig .tc := ⟨.hbm, 56, rfl⟩
abbrev main_while0b_call2_v7 : Ref sig .tc := ⟨.hbm, 57, rfl⟩
abbrev main_while0b_call2_v8 : Ref sig .tc := ⟨.hbm, 58, rfl⟩
abbrev main_while0b_call2_v9 : Ref sig .tc := ⟨.hbm, 59, rfl⟩
abbrev main_while0b_call2_v10 : Ref sig .tc := ⟨.hbm, 60, rfl⟩
abbrev main_while0b_call2_v11 : Ref sig .tc := ⟨.hbm, 61, rfl⟩
abbrev main_while0b_call2_c_3 : Ref sig .tc := ⟨.hbm, 62, rfl⟩
abbrev main_while0b_call2_v12 : Ref sig .tc := ⟨.hbm, 63, rfl⟩
abbrev main_while0b_call2_v13 : Ref sig .tc := ⟨.hbm, 64, rfl⟩
abbrev main_while0b_call2_v14 : Ref sig .tc := ⟨.hbm, 65, rfl⟩
abbrev main_while0b_call2_cst : Ref sig .tc := ⟨.hbm, 66, rfl⟩
abbrev main_while0b_call2_v15 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_cst_15 : Ref sig .tc := ⟨.hbm, 71, rfl⟩
abbrev main_while0b_v42 : Ref sig .tc := ⟨.hbm, 72, rfl⟩
abbrev main_while0b_cst_16 : Ref sig .tc := ⟨.hbm, 73, rfl⟩
abbrev main_while0b_v43 : Ref sig .tc := ⟨.hbm, 74, rfl⟩
abbrev main_while0b_cst_17 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_call3_v0 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_v52 : Ref sig .tc := ⟨.hbm, 87, rfl⟩
abbrev main_while0b_call4_v0 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_v53 : Ref sig .tc := ⟨.hbm, 92, rfl⟩
abbrev main_while0b_c_18 : Ref sig .tc := ⟨.hbm, 93, rfl⟩
abbrev main_while0b_v54 : Ref sig .tc := ⟨.hbm, 94, rfl⟩
abbrev main_v5 : Ref sig .tc := ⟨.hbm, 95, rfl⟩
abbrev main_v6 : Ref sig .tc := ⟨.hbm, 96, rfl⟩
abbrev main_v7 : Ref sig .tc := ⟨.hbm, 97, rfl⟩
abbrev main_v8 : Ref sig .tc := ⟨.hbm, 98, rfl⟩
abbrev main_cst_3 : Ref sig .tc := ⟨.hbm, 99, rfl⟩
abbrev main_v9 : Ref sig .tc := ⟨.hbm, 100, rfl⟩
abbrev main_v10 : Ref sig .tc := ⟨.hbm, 101, rfl⟩
abbrev main_v11 : Ref sig .tc := ⟨.hbm, 102, rfl⟩
abbrev main_v12 : Ref sig .tc := ⟨.hbm, 103, rfl⟩
abbrev main_cst_4 : Ref sig .tc := ⟨.hbm, 104, rfl⟩
abbrev main_v13 : Ref sig .tc := ⟨.hbm, 105, rfl⟩
abbrev main_v14 : Ref sig .tc := ⟨.hbm, 106, rfl⟩
abbrev main_v15 : Ref sig .tc := ⟨.hbm, 107, rfl⟩
abbrev main_v16 : Ref sig .tc := ⟨.hbm, 108, rfl⟩
abbrev main_v17 : Ref sig .tc := ⟨.hbm, 109, rfl⟩
abbrev main_cst_5 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩

abbrev nD : Nat := 1
abbrev τ : Topo := Topo.v7x

variable {F : FTy → Type} [FloatOps F]

abbrev main_while0_count : Scf.Loop 32 := ⟨0#32, 8#32, 1#32⟩
-- ==== Proof.KernelRun.lean ====
/- One grid point of the idealized kernel, run on whole staging buffers holding any given contents: what each
   buffer holds afterwards, in terms of the payloads of the kernel's stores. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.TableIdle

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The point's coordinates, as the body tests them -/

/-- The test "this is the first codebook of the row", as the body's first branch spells it. -/
abbrev isFirst (i : grid0.Coords) : Prop :=
  (Scalar.cmpi .ne (Scalar.extui (Scalar.cmpi .eq (BitVec.ofNat 32 (i 1).val) 0#32)) 0#32) = 1#1

/-- The codebook coordinate of point `t`. -/
theorem coord_layer (t : Fin cfg0.N) : (grid0.coords t 1).val = t.val / 1 % 8 :=
  Pipeline.Grid.coords_val t 1 (by decide) rfl
/-- The row coordinate of point `t`. -/
theorem coord_row (t : Fin cfg0.N) : (grid0.coords t 0).val = t.val / 8 % 8 :=
  Pipeline.Grid.coords_val t 0 (by decide) rfl

/-- The six branch conditions of the body, at point `t`: four of them ask whether the codebook is the first, one
    whether the point is the very first, one whether it is not. -/
theorem conds (t : Fin cfg0.N) :
    (isFirst (grid0.coords t) ↔ t.val % 8 = 0) ∧ (k0_cond2 (grid0.coords t) = 1#1 ↔ t.val % 8 = 0)
    ∧ (k0_cond3 (grid0.coords t) = 1#1 ↔ t.val % 8 = 0) ∧ (k0_cond4 (grid0.coords t) = 1#1 ↔ ¬ t.val % 8 = 0)
    ∧ (k0_cond5 (grid0.coords t) = 1#1 ↔ t.val = 0) ∧ (k0_cond6 (grid0.coords t) = 1#1 ↔ ¬ t.val = 0) :=
  (by decide +kernel : ∀ t : Fin grid0.N,
    (isFirst (grid0.coords t) ↔ t.val % 8 = 0) ∧ (k0_cond2 (grid0.coords t) = 1#1 ↔ t.val % 8 = 0)
    ∧ (k0_cond3 (grid0.coords t) = 1#1 ↔ t.val % 8 = 0) ∧ (k0_cond4 (grid0.coords t) = 1#1 ↔ ¬ t.val % 8 = 0)
    ∧ (k0_cond5 (grid0.coords t) = 1#1 ↔ t.val = 0) ∧ (k0_cond6 (grid0.coords t) = 1#1 ↔ ¬ t.val = 0)) t

/-! ## What a point leaves -/

/-- The residual a point starts from: the row of `x` at its first codebook, else what the point before left. -/
def startRes (first : Prop) [Decidable first] (x0 : Vec F S1x1500x512 .f32) (p9 : Vec F S1500x512 .f32) : Vec F S1500x512 .f32 :=
  if first then k0_pay3 x0 else p9

/-- The running sum of the quantised vectors after a point. -/
def nextXq (first : Prop) [Decidable first] (r : Vec F S1500x512 .f32) (cb : Vec F S1x1024x512 .f32) (p4 : Vec F S1x1500x512 .f32) : Vec F S1x1500x512 .f32 :=
  if first then k0_pay14 r (k0_pay4 cb) (k0_pay10 r cb) else k0_pay15 r (k0_pay4 cb) (k0_pay10 r cb) p4

/-- The running loss after a point. -/
def nextLoss (start : Prop) [Decidable start] (r : Vec F S1500x512 .f32) (cb : Vec F S1x1024x512 .f32) (p6 : Vec F S1x1 .f32) : Vec F S1x1 .f32 :=
  if start then k0_pay16 (k0_pay7 r cb) else k0_pay1 (k0_pay16 (k0_pay7 r cb)) p6

/-- The distance block after a point: stored at the first codebook, kept at the others. -/
def nextDist (first : Prop) [Decidable first] (r : Vec F S1500x512 .f32) (cb : Vec F S1x1024x512 .f32) (p8 : Vec F S1x1500x1024 .f32) : Vec F S1x1500x1024 .f32 :=
  if first then k0_pay6 r cb else p8

/-- The residual a point leaves. -/
def nextRes (r : Vec F S1500x512 .f32) (cb : Vec F S1x1024x512 .f32) : Vec F S1500x512 .f32 :=
  k0_pay2 r (k0_pay11 (k0_pay4 cb) (k0_pay10 r cb))

/-! ## Whole-buffer stores and loads -/

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-- A buffer whose last store wrote all of it reads back as what that store wrote. -/
theorem read_stored {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-- A load of all of a buffer whose contents are `X` gives `X`. -/
theorem load_whole {sp : Space} {S : Shape} {e : EltTy} {m : Memref sig .tc sp S e} (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h]

set_option maxHeartbeats 4000000 in
/-- The body at one point: from whole buffers at any contents, to the same buffers at the contents the definitions above
    name. -/
theorem run (c : Dev nD) (i : grid0.Coords) (first start : Prop) [Decidable first] [Decidable start]
    (h1 : isFirst i ↔ first) (h2 : k0_cond2 i = 1#1 ↔ first) (h3 : k0_cond3 i = 1#1 ↔ first) (h4 : k0_cond4 i = 1#1 ↔ ¬ first)
    (h5 : k0_cond5 i = 1#1 ↔ start) (h6 : k0_cond6 i = 1#1 ↔ ¬ start)
    (arg2 : Memref sig .tc .vmem S1x1500x512 .f32) (harg2 : arg2.IsWhole) (arg3 : Memref sig .tc .vmem S1x1024x512 .f32) (harg3 : arg3.IsWhole)
    (arg4 : Memref sig .tc .vmem S1x1500x512 .f32) (harg4 : arg4.IsWhole) (arg5 : Memref sig .tc .vmem S1x1x1x1500 .i32) (harg5 : arg5.IsWhole)
    (arg6 : Memref sig .tc .vmem S1x1 .f32) (harg6 : arg6.IsWhole) (arg7 : Memref sig .tc .vmem S1x1x1500x512 .f32) (harg7 : arg7.IsWhole)
    (arg8 : Memref sig .tc .vmem S1x1500x1024 .f32) (harg8 : arg8.IsWhole) (arg9 : Memref sig .tc .vmem S1500x512 .f32) (harg9 : arg9.IsWhole)
    (x0 : Vec F S1x1500x512 .f32) (x1 : Vec F S1x1024x512 .f32) (p4 : Vec F S1x1500x512 .f32) (p5 : Vec F S1x1x1x1500 .i32)
    (p6 : Vec F S1x1 .f32) (p7 : Vec F S1x1x1500x512 .f32) (p8 : Vec F S1x1500x1024 .f32) (p9 : Vec F S1500x512 .f32)
    (E : Set ℕ) (K : PUnit → sProp 𝕄) :
    iprop(owns (c : Thread nD τ) arg2 fullShare x0 ∗ owns (c : Thread nD τ) arg3 fullShare x1 ∗ owns (c : Thread nD τ) arg4 fullShare p4
        ∗ owns (c : Thread nD τ) arg5 fullShare p5 ∗ owns (c : Thread nD τ) arg6 fullShare p6 ∗ owns (c : Thread nD τ) arg7 fullShare p7
        ∗ owns (c : Thread nD τ) arg8 fullShare p8 ∗ owns (c : Thread nD τ) arg9 fullShare p9
        ∗ (iprop(owns (c : Thread nD τ) arg2 fullShare x0 ∗ owns (c : Thread nD τ) arg3 fullShare x1
            ∗ owns (c : Thread nD τ) arg4 fullShare (nextXq first (startRes first x0 p9) x1 p4)
            ∗ owns (c : Thread nD τ) arg5 fullShare (k0_pay9 (startRes first x0 p9) x1)
            ∗ owns (c : Thread nD τ) arg6 fullShare (nextLoss start (startRes first x0 p9) x1 p6)
            ∗ owns (c : Thread nD τ) arg7 fullShare (k0_pay12 (k0_pay4 x1) (k0_pay10 (startRes first x0 p9) x1))
            ∗ owns (c : Thread nD τ) arg8 fullShare (nextDist first (startRes first x0 p9) x1 p8)
            ∗ owns (c : Thread nD τ) arg9 fullShare (nextRes (startRes first x0 p9) x1)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9) K := by
  unfold startRes nextXq nextLoss nextDist nextRes
  simp only [cc0__rvq_kernel_eq_skeleton]; unfold cc0__rvq_kernel_skel
  simp only [k0_part1_eq_skeleton, k0_part2_eq_skeleton]
  unfold owns
  by_cases hf : first <;> by_cases hs : start
  all_goals
    simp only [hf, hs, iff_true, if_true, if_false, not_true_eq_false, not_false_eq_true, iff_false] at h1 h2 h3 h4 h5 h6 ⊢
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2
    obtain rfl := harg6.eq_unread hf4; obtain rfl := harg8.eq_unread hf6; obtain rfl := harg9.eq_unread hfs
    sl_exec (disch := first | sl_exact h1 | sl_exact h2 | sl_exact h3 | sl_exact h4 | sl_exact h5 | sl_exact h6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (read_stored _ _ zero3 _ _ _).trans ?_
      sl_unfold_words
      simp only [View.readCov_unit_zero (S := S1500x512) _ zero2, load_whole harg9 _ zero2, load_whole harg2 _ zero3, load_whole harg3 _ zero3, load_whole harg4 _ zero3]
    isplitl [H3]
    · iexists _; isplitr; swap; · iexact H3
      ipureintro
      refine (read_stored _ _ zero4 _ _ _).trans ?_
      sl_unfold_words
      simp only [View.readCov_unit_zero (S := S1500x512) _ zero2, load_whole harg9 _ zero2, load_whole harg2 _ zero3, load_whole harg3 _ zero3]
    isplitl [H4]
    · iexists _; isplitr; swap; · iexact H4
      ipureintro
      refine (read_stored _ _ zero2 _ _ _).trans ?_
      sl_unfold_words
      simp only [View.readCov_unit_zero (S := S1500x512) _ zero2, load_whole harg9 _ zero2, load_whole harg2 _ zero3, load_whole harg3 _ zero3, load_whole harg6 _ zero2]
    isplitl [H5]
    · iexists _; isplitr; swap; · iexact H5
      ipureintro
      refine (read_stored _ _ zero4 _ _ _).trans ?_
      sl_unfold_words
      simp only [View.readCov_unit_zero (S := S1500x512) _ zero2, load_whole harg9 _ zero2, load_whole harg2 _ zero3, load_whole harg3 _ zero3]
    isplitl [H6]
    · iexists _; isplitr; swap; · iexact H6
      ipureintro
      first
        | with_reducible exact harg8.read_unread _
        | refine (read_stored _ _ zero3 _ _ _).trans ?_
          sl_unfold_words
          simp only [View.readCov_unit_zero (S := S1500x512) _ zero2, load_whole harg9 _ zero2, load_whole harg2 _ zero3, load_whole harg3 _ zero3]
    iexists _; isplitr; swap; · iexact HS
    ipureintro
    refine (read_stored _ _ zero2 _ _ _).trans ?_
    sl_unfold_words
    simp only [View.readCov_unit_zero (S := S1500x512) _ zero2, load_whole harg9 _ zero2, load_whole harg2 _ zero3, load_whole harg3 _ zero3]

end Cert.Rvq

end
-- ==== Proof.KernelFrame.lean ====
/- The whole idealized kernel: what its buffers hold from grid point to grid point, and the launch — every run of the
   program ends with each result array holding the blocks those points wrote, and every semaphore at zero. -/
module

public import proofs.«01_k».proof.Proof.KernelRun
public import Idealize.ShloMosaic.Lib.Claim

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents, point by point -/

/-- What the kernel carries from one point to the next: the running sum, the running loss, the distance block and the
    residual. -/
structure State (F : FTy → Type) where
  xq : Vec F S1x1500x512 .f32
  loss : Vec F S1x1 .f32
  dist : Vec F S1x1500x1024 .f32
  res : Vec F S1500x512 .f32

/-- Point `n` of the grid. -/
def pt (n : ℕ) : Fin cfg0.N := ⟨n % 64, (Nat.mod_lt n (by decide)).trans_eq N_0.symm⟩

theorem pt_val (t : Fin cfg0.N) : pt t.val = t :=
  Fin.ext (Nat.mod_eq_of_lt (t.isLt.trans_eq N_0))

/-- The residual point `n` starts from, given the one it finds. -/
abbrev resAt (c : Dev nD) (n : ℕ) (p9 : Vec F S1500x512 .f32) : Vec F S1500x512 .f32 :=
  startRes (n % 8 = 0) (iblk m c 0 (pt n)) p9

/-- One point's effect on the carried contents. -/
def step (c : Dev nD) (n : ℕ) (p : State F) : State F where
  xq := nextXq (n % 8 = 0) (resAt m c n p.res) (iblk m c 1 (pt n)) p.xq
  loss := nextLoss (n = 0) (resAt m c n p.res) (iblk m c 1 (pt n)) p.loss
  dist := nextDist (n % 8 = 0) (resAt m c n p.res) (iblk m c 1 (pt n)) p.dist
  res := nextRes (resAt m c n p.res) (iblk m c 1 (pt n))

/-- Some value of the element type: the first of `x`'s block. -/
def someVal (c : Dev nD) : F .f32 := (iblk m c 0 (pt 0) : Vec F S1x1500x512 .f32) (Shape.Idx.first h_S1x1500x512)

/-- The carried contents before point `n` (of no account before the first). -/
def st (c : Dev nD) : ℕ → State F
  | 0 => ⟨fun _ => someVal m c, fun _ => someVal m c, fun _ => someVal m c, fun _ => someVal m c⟩
  | n + 1 => step m c n (st c n)

/-- The residual point `n` works on. -/
abbrev resOf (c : Dev nD) (n : ℕ) : Vec F S1500x512 .f32 := resAt m c n (st m c n).res

/-! ## The pipeline's proof data -/

/-- The scratch operand: a whole buffer of the kernel's own. -/
abbrev scratch : Memref sig .tc .vmem S1500x512 .f32 := Memref.whole cc0_scratch0

/-- The invariant before point `n`: the scratch at the residual the point before left (at anything before the first
    point), and the generator register at some state. -/
def carried (c : Dev nD) (n : ℕ) : sProp 𝕄 :=
  iprop((∃ p, ⌜n ≠ 0 → p = (st m c n).res⌝ ∗ owns (c : Thread nD τ) scratch fullShare p) ∗ (∃ r, prngReg c r))

/-- The proof data on core `c`: the arrays as launched; after each point, the inputs' buffers at their blocks and the
    outputs' at the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (st m c (t.val + 1)).xq
    | ⟨3, _⟩ => k0_pay9 (resOf m c t.val) (iblk m c 1 t)
    | ⟨4, _⟩ => (st m c (t.val + 1)).loss
    | ⟨5, _⟩ => k0_pay12 (k0_pay4 (iblk m c 1 t)) (k0_pay10 (resOf m c t.val) (iblk m c 1 t))
    | ⟨6, _⟩ => (st m c (t.val + 1)).dist
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (st m c (t.val + 1)).xq := by dsimp only [dats]
theorem after_3 (c : Dev nD) (t : Fin cfg0.N) : (dats m 0 c).after 3 t = k0_pay9 (resOf m c t.val) (iblk m c 1 t) := by dsimp only [dats]
theorem after_4 (c : Dev nD) (t : Fin cfg0.N) : (dats m 0 c).after 4 t = (st m c (t.val + 1)).loss := by dsimp only [dats]
theorem after_5 (c : Dev nD) (t : Fin cfg0.N) :
    (dats m 0 c).after 5 t = k0_pay12 (k0_pay4 (iblk m c 1 t)) (k0_pay10 (resOf m c t.val) (iblk m c 1 t)) := by dsimp only [dats]
theorem after_6 (c : Dev nD) (t : Fin cfg0.N) : (dats m 0 c).after 6 t = (st m c (t.val + 1)).dist := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Only the distance window is ever idle, and only away from the first codebook. -/
theorem idle_iff (t : Fin cfg0.N) : cfg0.idle 2 (grid0.coords t) = false ∧ cfg0.idle 3 (grid0.coords t) = false
    ∧ cfg0.idle 4 (grid0.coords t) = false ∧ cfg0.idle 5 (grid0.coords t) = false
    ∧ cfg0.idle 6 (grid0.coords t) = decide (¬ t.val % 8 = 0) :=
  (by decide +kernel : ∀ t : Fin grid0.N, cfg0.idle 2 (grid0.coords t) = false ∧ cfg0.idle 3 (grid0.coords t) = false
    ∧ cfg0.idle 4 (grid0.coords t) = false ∧ cfg0.idle 5 (grid0.coords t) = false
    ∧ cfg0.idle 6 (grid0.coords t) = decide (¬ t.val % 8 = 0)) t

/-- Whether a window's buffer holds nothing stored yet: for the sum and the distances at the start of each row, -/
theorem fresh_row (w : Fin cfg0.W) (hw : w = 2 ∨ w = 6) (n : ℕ) (hn : n ≤ cfg0.N) : cfg0.fresh w n = decide (n % 8 = 0) :=
  Cfg.fresh_tab cfg0 w (fun n => decide (n % 8 = 0)) rfl (by
    rcases hw with rfl | rfl
    · exact (by decide +kernel : ∀ t : Fin grid0.N, decide ((t.val + 1) % 8 = 0)
        = ((cfg0.win 2).flush t || (cfg0.idle 2 (grid0.coords t) && decide (t.val % 8 = 0))))
    · exact (by decide +kernel : ∀ t : Fin grid0.N, decide ((t.val + 1) % 8 = 0)
        = ((cfg0.win 6).flush t || (cfg0.idle 6 (grid0.coords t) && decide (t.val % 8 = 0))))) n hn

/-- for the loss before the first point only. -/
theorem fresh_start (n : ℕ) (hn : n ≤ cfg0.N) : cfg0.fresh 4 n = decide (n % 64 = 0) :=
  Cfg.fresh_tab cfg0 4 (fun n => decide (n % 64 = 0)) rfl (by
    exact (by decide +kernel : ∀ t : Fin grid0.N, decide ((t.val + 1) % 64 = 0)
      = ((cfg0.win 4).flush t || (cfg0.idle 4 (grid0.coords t) && decide (t.val % 64 = 0))))) n hn

theorem before_2 (c : Dev nD) (t : Fin cfg0.N) (h : ¬ t.val % 8 = 0) (d) : (dats m 0 c).before 2 t d = (st m c t.val).xq := by
  rw [(dats m 0 c).before_out_traj 2 rfl (fun _ _ => rfl) (fun t _ hi => absurd ((idle_iff t).1.symm.trans hi) (by decide)) _ t rfl d,
    fresh_row 2 (.inl rfl) t.val (Nat.le_of_lt t.isLt), if_neg (by simpa using h), after_2]
  dsimp only; rw [Nat.sub_add_cancel (by omega)]

theorem before_4 (c : Dev nD) (t : Fin cfg0.N) (h : ¬ t.val = 0) (d) : (dats m 0 c).before 4 t d = (st m c t.val).loss := by
  have hN : t.val < 64 := t.isLt.trans_eq N_0
  rw [(dats m 0 c).before_out_traj 4 rfl (fun _ _ => rfl) (fun t _ hi => absurd ((idle_iff t).2.2.1.symm.trans hi) (by decide)) _ t rfl d,
    fresh_start t.val (Nat.le_of_lt t.isLt), if_neg (by simp; omega), after_4]
  dsimp only; rw [Nat.sub_add_cancel (by omega)]

theorem before_6 (c : Dev nD) (t : Fin cfg0.N) (h : ¬ t.val % 8 = 0) (d) : (dats m 0 c).before 6 t d = (st m c t.val).dist := by
  rw [(dats m 0 c).before_out_traj 6 rfl (fun _ _ => rfl) (fun t h0 hi _ => by
      rw [(idle_iff t).2.2.2.2, decide_eq_true_eq] at hi
      rw [after_6, after_6]; dsimp only; rw [Nat.sub_add_cancel (by omega)]
      show nextDist _ _ _ _ = _
      unfold nextDist; rw [if_neg hi]) _ t rfl d,
    fresh_row 6 (.inr rfl) t.val (Nat.le_of_lt t.isLt), if_neg (by simpa using h), after_6]
  dsimp only; rw [Nat.sub_add_cancel (by omega)]

/-! ## The body at every point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A window that is not idle at a point is left at its `after` contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The distance window is left at its `after` contents too, idle or not. -/
theorem leaves_dist (c : Dev nD) (t : Fin cfg0.N) :
    (owns (c : Thread nD τ) (st0_6 t) fullShare (st m c (t.val + 1)).dist : sProp 𝕄) ⊢ (dats m 0 c).leavesExact 6 t := by
  have hi := (idle_iff t).2.2.2.2
  by_cases h : t.val % 8 = 0
  · rw [leaves_live m c 6 t (by rw [hi]; simpa using h), after_6]
  · have e : (st m c (t.val + 1)).dist = (st m c t.val).dist := by
      show nextDist _ _ _ _ = _
      unfold nextDist; rw [if_neg h]
    by_cases hf : (cfg0.win 6).flush t = true
    · unfold Dat.leavesExact; rw [hi, hf, after_6, decide_eq_true h]
    · rw [(dats m 0 c).leavesExact_idle 6 t (by rw [hi]; simpa using h) (by simpa using hf)]
      iintro H; iexists (st m c t.val).dist
      rw [before_6 m c t h, e]; iexact H

set_option maxHeartbeats 1000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = carried m c (t.val + 1) from rfl, show (dats m 0 c).Φ t.castSucc = carried m c t.val from rfl]
  obtain ⟨h1, h2, h3, h4, h5, h6⟩ := conds t
  simp only [before_0, before_1]
  rw [leaves_live m c 0 t rfl, leaves_live m c 1 t rfl, leaves_live m c 2 t (idle_iff t).1, leaves_live m c 3 t (idle_iff t).2.1,
    leaves_live m c 4 t (idle_iff t).2.2.1, leaves_live m c 5 t (idle_iff t).2.2.2.1, after_0, after_1, after_2, after_3, after_4, after_5]
  unfold carried
  iintro ⟨⟨⟨%p9, %hp9, HS⟩, Hg⟩, Ho, ⟨%d0, H0⟩, ⟨%d1, H1⟩, ⟨%d2, H2⟩, ⟨%d3, H3⟩, ⟨%d4, H4⟩, ⟨%d5, H5⟩, ⟨%d6, H6⟩⟩
  have er : startRes (t.val % 8 = 0) (iblk m c 0 t) p9 = resOf m c t.val := by
    rw [resOf, resAt, pt_val]; unfold startRes
    by_cases h : t.val % 8 = 0
    · rw [if_pos h, if_pos h]
    · rw [hp9 (by omega)]
  have e2 : nextXq (t.val % 8 = 0) (resOf m c t.val) (iblk m c 1 t) ((dats m 0 c).before 2 t d2) = (st m c (t.val + 1)).xq := by
    show _ = nextXq _ (resOf m c t.val) (iblk m c 1 (pt t.val)) _
    rw [pt_val]; unfold nextXq
    by_cases h : t.val % 8 = 0
    · rw [if_pos h, if_pos h]
    · rw [before_2 m c t h]
  have e4 : nextLoss (t.val = 0) (resOf m c t.val) (iblk m c 1 t) ((dats m 0 c).before 4 t d4) = (st m c (t.val + 1)).loss := by
    show _ = nextLoss _ (resOf m c t.val) (iblk m c 1 (pt t.val)) _
    rw [pt_val]; unfold nextLoss
    by_cases h : t.val = 0
    · rw [if_pos h, if_pos h]
    · rw [before_4 m c t h]
  have e6 : nextDist (t.val % 8 = 0) (resOf m c t.val) (iblk m c 1 t) ((dats m 0 c).before 6 t d6) = (st m c (t.val + 1)).dist := by
    show _ = nextDist _ (resOf m c t.val) (iblk m c 1 (pt t.val)) _
    rw [pt_val]; unfold nextDist
    by_cases h : t.val % 8 = 0
    · rw [if_pos h, if_pos h]
    · rw [before_6 m c t h]
  have e9 : nextRes (resOf m c t.val) (iblk m c 1 t) = (st m c (t.val + 1)).res := by
    show _ = nextRes (resOf m c t.val) (iblk m c 1 (pt t.val))
    rw [pt_val]
  iapply (run c (grid0.coords t) (t.val % 8 = 0) (t.val = 0) h1 h2 h3 h4 h5 h6 _ _ _ _ _ _ _ _ _ _ _ _ _ _ _ (Memref.isWhole_whole _)
    (iblk m c 0 t) (iblk m c 1 t) ((dats m 0 c).before 2 t d2) ((dats m 0 c).before 3 t d3) ((dats m 0 c).before 4 t d4)
    ((dats m 0 c).before 5 t d5) ((dats m 0 c).before 6 t d6) p9 Set.univ _)
  rw [er, e2, e4, e6, e9]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_dist m c t); iexact H6

/-- The body the pipeline calls at point `t`. -/
theorem defs₀_row (t : Fin cfg0.N) : defs₀ (F := F) .tc cfg0.body (cfg0.bodyArgs t (cfg0.slots t)) = bodyAt0 t := by
  unfold defs₀; rw [Defs.onTc_tc]

/-- The obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant the launch supplies and takes back: the scratch at some contents, the register at some state. -/
theorem launch_inv (c : Dev nD) : (Pipeline.ΦA spec0 c : sProp 𝕄)
    = iprop((∃ d, owns (c : Thread nD τ) scratch fullShare d) ∗ (∃ r, prngReg c r)) := by
  unfold Pipeline.ΦA; rw [scopedRest0_eq]; simp only [scratch, owns_whole]; try rfl

theorem hin (c : Dev nD) : Pipeline.ΦA spec0 c ⊢ (dats m 0 c).Φ 0 := by
  rw [show (dats m 0 c).Φ 0 = carried m c 0 from rfl, launch_inv]; unfold carried
  iintro ⟨⟨%d, H⟩, Hg⟩
  isplitl [H]
  · iexists d; isplitr; · ipureintro; exact fun h => absurd rfl h
    iexact H
  iexact Hg

theorem hout (c : Dev nD) : (dats m 0 c).Φ (Fin.last cfg0.N) ⊢ Pipeline.ΦA spec0 c := by
  rw [show (dats m 0 c).Φ (Fin.last cfg0.N) = carried m c cfg0.N from rfl, launch_inv]; unfold carried
  iintro ⟨⟨%d, -, H⟩, Hg⟩
  isplitl [H]
  · iexists d; iexact H
  iexact Hg

/-! ## The launch -/

set_option backward.isDefEq.respectTransparency.types false in
set_option maxHeartbeats 800000 in
/-- Every run ends, with each array at what its blocks' last write-backs left, the host's reshapes applied after, and
    every semaphore at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they were launched, and every semaphore is at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Rvq

end
-- ==== Proof.RefRun.lean ====
/- The reference program run: its @main is a stretch of host operations, one counted loop of eight trips (one per
   codebook) and a second stretch. This module states the operations of each stretch as a list, in the program's order,
   and proves that the program ends with every buffer at the fold of those lists (`run`), every counter at zero. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

@[expose] public section

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches -/

/-- The operations before the loop. -/
abbrev preOps : List (HloOp τ sig (Elt F)) :=
  [ StableHlo.reshape main_arg0 main_v0 (rfl : (.f32 : EltTy) = .f32) shapeCasts_S8x1500x512_S12000x512,
    StableHlo.nullary main_cst (constant S_ .f32 0x00000000#32),
    StableHlo.unary main_cst main_v1 (broadcastInDim S12000x512 ![] bcast_S_S12000x512 : (⟨S_, .f32⟩ : BufTy).Contents (Elt F) → (⟨S12000x512, .f32⟩ : BufTy).Contents (Elt F)),
    StableHlo.nullary main_cst_0 (constant S_ .f32 0x00000000#32),
    StableHlo.nullary main_c (constantI S_ 32 0#32),
    StableHlo.unary main_c main_v2 (broadcastInDim S8x8x1500 ![] bcast_S_S8x8x1500 : (⟨S_, .i32⟩ : BufTy).Contents (Elt F) → (⟨S8x8x1500, .i32⟩ : BufTy).Contents (Elt F)),
    StableHlo.nullary main_cst_1 (constant S_ .f32 0x00000000#32),
    StableHlo.unary main_cst_1 main_v3 (broadcastInDim S8x8x1500x512 ![] bcast_S_S8x8x1500x512 : (⟨S_, .f32⟩ : BufTy).Contents (Elt F) → (⟨S8x8x1500x512, .f32⟩ : BufTy).Contents (Elt F)),
    StableHlo.nullary main_c_2 (constantI S_ 32 0#32),
    StableHlo.unary main_arg1 main_v4_0 id,
    StableHlo.unary main_c_2 main_v4_1 id,
    StableHlo.unary main_v0 main_v4_2 id,
    StableHlo.unary main_v1 main_v4_3 id,
    StableHlo.unary main_cst_0 main_v4_4 id,
    StableHlo.unary main_v2 main_v4_5 id,
    StableHlo.unary main_v3 main_v4_6 id ]

/-- One trip, first stretch: the layer's codebook out of the stacked ones. -/
abbrev sliceOps : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v4_0 : StableHlo.TRef sig ⟨S8x1024x512, .f32⟩) ![(.of main_v4_1 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x1024x512, .f32⟩) (fun x i => Host.dynamicSlice S1x1024x512 x (fun k => (i k (Shape.Idx.first h_S_)).toInt) sliceFits_S8x1024x512_S1x1024x512),
    StableHlo.TRef.reshape (.of main_while0b_call0_v0 : StableHlo.TRef sig ⟨S1x1024x512, .f32⟩) (.of main_while0b_v23 : StableHlo.TRef sig ⟨S1024x512, .f32⟩) (rfl : (.f32 : EltTy) = .f32) shapeCasts_S1x1024x512_S1024x512 ]

/-- One trip, second stretch: the distances of every token to every codebook row. -/
abbrev distOps : List (HloOp τ sig (Elt F)) :=
  [ StableHlo.binary main_v4_2 main_v4_2 main_while0b_v24 (mulf : (⟨S12000x512, .f32⟩ : BufTy).Contents (Elt F) → (⟨S12000x512, .f32⟩ : BufTy).Contents (Elt F) → (⟨S12000x512, .f32⟩ : BufTy).Contents (Elt F)),
    StableHlo.nullary main_while0b_cst_12 (constant S_ .f32 0x00000000#32),
    StableHlo.binary main_while0b_v24 main_while0b_cst_12 main_while0b_v25 ((fun x v => Host.reduceAdd x v reducesTo_S12000x512_S12000_d1 h_S_) : (⟨S12000x512, .f32⟩ : BufTy).Contents (Elt F) → (⟨S_, .f32⟩ : BufTy).Contents (Elt F) → (⟨S12000, .f32⟩ : BufTy).Contents (Elt F)),
    StableHlo.unary main_while0b_v25 main_while0b_v26 (broadcastInDim S12000x1 ![0] bcast_S12000_S12000x1_0 : (⟨S12000, .f32⟩ : BufTy).Contents (Elt F) → (⟨S12000x1, .f32⟩ : BufTy).Contents (Elt F)),
    StableHlo.unary main_while0b_v23 main_while0b_v27 ((transpose S512x1024 [1, 0] · transposes_S1024x512_S512x1024_1_0) : (⟨S1024x512, .f32⟩ : BufTy).Contents (Elt F) → (⟨S512x1024, .f32⟩ : BufTy).Contents (Elt F)),
    StableHlo.binary main_v4_2 main_while0b_v27 main_while0b_v28 ((fun l r => Host.dotGeneral dot_S12000x512_S512x1024_S12000x1024_1_0_0_1_n_n none l r) : (⟨S12000x512, .f32⟩ : BufTy).Contents (Elt F) → (⟨S512x1024, .f32⟩ : BufTy).Contents (Elt F) → (⟨S12000x1024, .f32⟩ : BufTy).Contents (Elt F)),
    StableHlo.nullary main_while0b_cst_13 (constant S_ .f32 0x40000000#32),
    StableHlo.unary main_while0b_cst_13 main_while0b_v29 (broadcastInDim S12000x1024 ![] bcast_S_S12000x1024 : (⟨S_, .f32⟩ : BufTy).Contents (Elt F) → (⟨S12000x1024, .f32⟩ : BufTy).Contents (Elt F)),
    StableHlo.binary main_while0b_v29 main_while0b_v28 main_while0b_v30 (mulf : (⟨S12000x1024, .f32⟩ : BufTy).Contents (Elt F) → (⟨S12000x1024, .f32⟩ : BufTy).Contents (Elt F) → (⟨S12000x1024, .f32⟩ : BufTy).Contents (Elt F)),
    StableHlo.unary main_while0b_v26 main_while0b_v31 (broadcastInDim S12000x1024 ![0, 1] bcast_S12000x1_S12000x1024_0_1 : (⟨S12000x1, .f32⟩ : BufTy).Contents (Elt F) → (⟨S12000x1024, .f32⟩ : BufTy).Contents (Elt F)),
    StableHlo.binary main_while0b_v31 main_while0b_v30 main_while0b_v32 (subf : (⟨S12000x1024, .f32⟩ : BufTy).Contents (Elt F) → (⟨S12000x1024, .f32⟩ : BufTy).Contents (Elt F) → (⟨S12000x1024, .f32⟩ : BufTy).Contents (Elt F)),
    StableHlo.binary main_while0b_v23 main_while0b_v23 main_while0b_v33 (mulf : (⟨S1024x512, .f32⟩ : BufTy).Contents (Elt F) → (⟨S1024x512, .f32⟩ : BufTy).Contents (Elt F) → (⟨S1024x512, .f32⟩ : BufTy).Contents (Elt F)),
    StableHlo.nullary main_while0b_cst_14 (constant S_ .f32 0x00000000#32),
    StableHlo.binary main_while0b_v33 main_while0b_cst_14 main_while0b_v34 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    StableHlo.unary main_while0b_v34 main_while0b_v35 (broadcastInDim S1x1024 ![1] bcast_S1024_S1x1024_1 : (⟨S1024, .f32⟩ : BufTy).Contents (Elt F) → (⟨S1x1024, .f32⟩ : BufTy).Contents (Elt F)),
    StableHlo.unary main_while0b_v35 main_while0b_v36 (broadcastInDim S12000x1024 ![0, 1] bcast_S1x1024_S12000x1024_0_1 : (⟨S1x1024, .f32⟩ : BufTy).Contents (Elt F) → (⟨S12000x1024, .f32⟩ : BufTy).Contents (Elt F)),
    StableHlo.binary main_while0b_v32 main_while0b_v36 main_while0b_v37 (addf : (⟨S12000x1024, .f32⟩ : BufTy).Contents (Elt F) → (⟨S12000x1024, .f32⟩ : BufTy).Contents (Elt F) → (⟨S12000x1024, .f32⟩ : BufTy).Contents (Elt F)) ]

/-- One trip, third stretch: each token's first nearest row. -/
abbrev argminOps : List (HloOp τ sig (Elt F)) :=
  [ StableHlo.TRef.nullary (.of main_while0b_call1_v0 : StableHlo.TRef sig ⟨S12000x1024, .i32⟩) (iotaInDim S12000x1024 32 1),
    StableHlo.TRef.nullary (.of main_while0b_call1_cst : StableHlo.TRef sig ⟨S_, .f32⟩) (constant S_ .f32 0x7F800000#32),
    StableHlo.TRef.nullary (.of main_while0b_call1_c : StableHlo.TRef sig ⟨S_, .i32⟩) (constantI S_ 32 0#32),
    StableHlo.TRef.quaternary (.of main_while0b_v37 : StableHlo.TRef sig ⟨S12000x1024, .f32⟩) (.of main_while0b_call1_v0 : StableHlo.TRef sig ⟨S12000x1024, .i32⟩) (.of main_while0b_call1_cst : StableHlo.TRef sig ⟨S_, .f32⟩) (.of main_while0b_call1_c : StableHlo.TRef sig ⟨S_, .i32⟩) (.of main_while0b_call1_v1_0 : StableHlo.TRef sig ⟨S12000, .f32⟩) (fun x y u v j => (Host.argReduce reducer_argmin_f32_i32 x y u v reducesTo_S12000x1024_S12000_d1 h_S_ j).1),
    StableHlo.TRef.quaternary (.of main_while0b_v37 : StableHlo.TRef sig ⟨S12000x1024, .f32⟩) (.of main_while0b_call1_v0 : StableHlo.TRef sig ⟨S12000x1024, .i32⟩) (.of main_while0b_call1_cst : StableHlo.TRef sig ⟨S_, .f32⟩) (.of main_while0b_call1_c : StableHlo.TRef sig ⟨S_, .i32⟩) (.of main_while0b_v38 : StableHlo.TRef sig ⟨S12000, .i32⟩) (fun x y u v j => (Host.argReduce reducer_argmin_f32_i32 x y u v reducesTo_S12000x1024_S12000_d1 h_S_ j).2) ]

/-- One trip, fourth stretch: the rows chosen. -/
abbrev takeOps : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S12000, .i32⟩) (broadcastInDim S12000 ![] bcast_S_S12000),
    StableHlo.TRef.binary (.of main_while0b_v38 : StableHlo.TRef sig ⟨S12000, .i32⟩) (.of main_while0b_call2_v0 : StableHlo.TRef sig ⟨S12000, .i32⟩) (.of main_while0b_call2_v1 : StableHlo.TRef sig ⟨S12000, .i1⟩) (cmpi .slt),
    StableHlo.TRef.nullary (.of main_while0b_call2_c_0 : StableHlo.TRef sig ⟨S_, .i32⟩) (constantI S_ 32 1024#32),
    StableHlo.TRef.unary (.of main_while0b_call2_c_0 : StableHlo.TRef sig ⟨S_, .i32⟩) (.of main_while0b_call2_v2 : StableHlo.TRef sig ⟨S12000, .i32⟩) (broadcastInDim S12000 ![] bcast_S_S12000),
    StableHlo.TRef.binary (.of main_while0b_v38 : StableHlo.TRef sig ⟨S12000, .i32⟩) (.of main_while0b_call2_v2 : StableHlo.TRef sig ⟨S12000, .i32⟩) (.of main_while0b_call2_v3 : StableHlo.TRef sig ⟨S12000, .i32⟩) addi,
    StableHlo.TRef.ternary (.of main_while0b_call2_v1 : StableHlo.TRef sig ⟨S12000, .i1⟩) (.of main_while0b_call2_v3 : StableHlo.TRef sig ⟨S12000, .i32⟩) (.of main_while0b_v38 : StableHlo.TRef sig ⟨S12000, .i32⟩) (.of main_while0b_call2_v4 : StableHlo.TRef sig ⟨S12000, .i32⟩) select,
    StableHlo.TRef.unary (.of main_while0b_call2_v4 : StableHlo.TRef sig ⟨S12000, .i32⟩) (.of main_while0b_call2_v5 : StableHlo.TRef sig ⟨S12000x1, .i32⟩) (broadcastInDim S12000x1 ![0] bcast_S12000_S12000x1_0),
    StableHlo.TRef.nullary (.of main_while0b_call2_c_1 : StableHlo.TRef sig ⟨S1, .i32⟩) (constantI S1 32 1023#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S12000x1, .i32⟩) (broadcastInDim S12000x1 ![] bcast_S_S12000x1),
    StableHlo.TRef.binary (.of main_while0b_call2_v5 : StableHlo.TRef sig ⟨S12000x1, .i32⟩) (.of main_while0b_call2_v6 : StableHlo.TRef sig ⟨S12000x1, .i32⟩) (.of main_while0b_call2_v7 : StableHlo.TRef sig ⟨S12000x1, .i1⟩) (cmpi .sge),
    StableHlo.TRef.unary (.of main_while0b_call2_c_1 : StableHlo.TRef sig ⟨S1, .i32⟩) (.of main_while0b_call2_v8 : StableHlo.TRef sig ⟨S1x1, .i32⟩) (broadcastInDim S1x1 ![1] bcast_S1_S1x1_1),
    StableHlo.TRef.unary (.of main_while0b_call2_v8 : StableHlo.TRef sig ⟨S1x1, .i32⟩) (.of main_while0b_call2_v9 : StableHlo.TRef sig ⟨S12000x1, .i32⟩) (broadcastInDim S12000x1 ![0, 1] bcast_S1x1_S12000x1_0_1),
    StableHlo.TRef.binary (.of main_while0b_call2_v5 : StableHlo.TRef sig ⟨S12000x1, .i32⟩) (.of main_while0b_call2_v9 : StableHlo.TRef sig ⟨S12000x1, .i32⟩) (.of main_while0b_call2_v10 : StableHlo.TRef sig ⟨S12000x1, .i1⟩) (cmpi .sle),
    StableHlo.TRef.binary (.of main_while0b_call2_v7 : StableHlo.TRef sig ⟨S12000x1, .i1⟩) (.of main_while0b_call2_v10 : StableHlo.TRef sig ⟨S12000x1, .i1⟩) (.of main_while0b_call2_v11 : StableHlo.TRef sig ⟨S12000x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S12000x1, .i1⟩) (.of main_while0b_call2_c_3 : StableHlo.TRef sig ⟨S_, .i1⟩) (.of main_while0b_call2_v12 : StableHlo.TRef sig ⟨S12000, .i1⟩) (fun x v => Host.reduce IntOp.andi x v reducesTo_S12000x1_S12000_d1 h_S_),
    StableHlo.TRef.binary (.of main_while0b_v23 : StableHlo.TRef sig ⟨S1024x512, .f32⟩) (.of main_while0b_call2_v5 : StableHlo.TRef sig ⟨S12000x1, .i32⟩) (.of main_while0b_call2_v13 : StableHlo.TRef sig ⟨S12000x512, .f32⟩) (fun x i => Host.gather gather_S1024x512_S12000x1_S12000x512_1_0_n_n_0_1_1512 x i),
    StableHlo.TRef.unary (.of main_while0b_call2_v12 : StableHlo.TRef sig ⟨S12000, .i1⟩) (.of main_while0b_call2_v14 : StableHlo.TRef sig ⟨S12000x512, .i1⟩) (broadcastInDim S12000x512 ![0] bcast_S12000_S12000x512_0),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v15 : StableHlo.TRef sig ⟨S12000x512, .f32⟩) (broadcastInDim S12000x512 ![] bcast_S_S12000x512),
    StableHlo.TRef.ternary (.of main_while0b_call2_v14 : StableHlo.TRef sig ⟨S12000x512, .i1⟩) (.of main_while0b_call2_v13 : StableHlo.TRef sig ⟨S12000x512, .f32⟩) (.of main_while0b_call2_v15 : StableHlo.TRef sig ⟨S12000x512, .f32⟩) (.of main_while0b_v39 : StableHlo.TRef sig ⟨S12000x512, .f32⟩) select ]

/-- One trip, fifth stretch: the loss term, the sum of the quantised layers and the next residual. -/
abbrev sumOps : List (HloOp τ sig (Elt F)) :=
  [ StableHlo.binary main_while0b_v39 main_v4_2 main_while0b_v40 (subf : (⟨S12000x512, .f32⟩ : BufTy).Contents (Elt F) → (⟨S12000x512, .f32⟩ : BufTy).Contents (Elt F) → (⟨S12000x512, .f32⟩ : BufTy).Contents (Elt F)),
    StableHlo.binary main_while0b_v40 main_while0b_v40 main_while0b_v41 (mulf : (⟨S12000x512, .f32⟩ : BufTy).Contents (Elt F) → (⟨S12000x512, .f32⟩ : BufTy).Contents (Elt F) → (⟨S12000x512, .f32⟩ : BufTy).Contents (Elt F)),
    StableHlo.nullary main_while0b_cst_15 (constant S_ .f32 0x00000000#32),
    StableHlo.binary main_while0b_v41 main_while0b_cst_15 main_while0b_v42 ((fun x v => Host.reduceAdd x v reducesTo_S12000x512_S_d0_1 h_S_) : (⟨S12000x512, .f32⟩ : BufTy).Contents (Elt F) → (⟨S_, .f32⟩ : BufTy).Contents (Elt F) → (⟨S_, .f32⟩ : BufTy).Contents (Elt F)),
    StableHlo.nullary main_while0b_cst_16 (constant S_ .f32 0x4ABB8000#32),
    StableHlo.binary main_while0b_v42 main_while0b_cst_16 main_while0b_v43 (Host.divf : (⟨S_, .f32⟩ : BufTy).Contents (Elt F) → (⟨S_, .f32⟩ : BufTy).Contents (Elt F) → (⟨S_, .f32⟩ : BufTy).Contents (Elt F)),
    StableHlo.nullary main_while0b_cst_17 (constant S_ .f32 0x3DCCCCCD#32),
    StableHlo.binary main_while0b_v43 main_while0b_cst_17 main_while0b_v44 (mulf : (⟨S_, .f32⟩ : BufTy).Contents (Elt F) → (⟨S_, .f32⟩ : BufTy).Contents (Elt F) → (⟨S_, .f32⟩ : BufTy).Contents (Elt F)),
    StableHlo.binary main_v4_4 main_while0b_v44 main_while0b_v45 (addf : (⟨S_, .f32⟩ : BufTy).Contents (Elt F) → (⟨S_, .f32⟩ : BufTy).Contents (Elt F) → (⟨S_, .f32⟩ : BufTy).Contents (Elt F)),
    StableHlo.binary main_while0b_v39 main_v4_2 main_while0b_v46 (subf : (⟨S12000x512, .f32⟩ : BufTy).Contents (Elt F) → (⟨S12000x512, .f32⟩ : BufTy).Contents (Elt F) → (⟨S12000x512, .f32⟩ : BufTy).Contents (Elt F)),
    StableHlo.binary main_v4_2 main_while0b_v46 main_while0b_v47 (addf : (⟨S12000x512, .f32⟩ : BufTy).Contents (Elt F) → (⟨S12000x512, .f32⟩ : BufTy).Contents (Elt F) → (⟨S12000x512, .f32⟩ : BufTy).Contents (Elt F)),
    StableHlo.binary main_v4_3 main_while0b_v47 main_while0b_v48 (addf : (⟨S12000x512, .f32⟩ : BufTy).Contents (Elt F) → (⟨S12000x512, .f32⟩ : BufTy).Contents (Elt F) → (⟨S12000x512, .f32⟩ : BufTy).Contents (Elt F)),
    StableHlo.binary main_v4_2 main_while0b_v39 main_while0b_v49 (subf : (⟨S12000x512, .f32⟩ : BufTy).Contents (Elt F) → (⟨S12000x512, .f32⟩ : BufTy).Contents (Elt F) → (⟨S12000x512, .f32⟩ : BufTy).Contents (Elt F)),
    StableHlo.reshape main_while0b_v38 main_while0b_v50 (rfl : (.i32 : EltTy) = .i32) shapeCasts_S12000_S8x1500,
    StableHlo.reshape main_while0b_v39 main_while0b_v51 (rfl : (.f32 : EltTy) = .f32) shapeCasts_S12000x512_S8x1500x512 ]

/-- One trip, sixth stretch: the chosen row numbers stored as the layer's. -/
abbrev codesOps : List (HloOp τ sig (Elt F)) :=
  [ StableHlo.TRef.unary (.of main_while0b_v50 : StableHlo.TRef sig ⟨S8x1500, .i32⟩) (.of main_while0b_call3_v0 : StableHlo.TRef sig ⟨S1x8x1500, .i32⟩) (broadcastInDim S1x8x1500 ![1, 2] bcast_S8x1500_S1x8x1500_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v4_5 : StableHlo.TRef sig ⟨S8x8x1500, .i32⟩) (.of main_while0b_call3_v0 : StableHlo.TRef sig ⟨S1x8x1500, .i32⟩) ![(.of main_v4_1 : StableHlo.TRef sig ⟨S_, .i32⟩), (.of main_while0b_call3_c : StableHlo.TRef sig ⟨S_, .i32⟩), (.of main_while0b_call3_c_0 : StableHlo.TRef sig ⟨S_, .i32⟩)] (.of main_while0b_v52 : StableHlo.TRef sig ⟨S8x8x1500, .i32⟩) (fun x u i => Host.dynamicUpdateSlice x u (fun k => (i k (Shape.Idx.first h_S_)).toInt) updateFits_S8x8x1500_S1x8x1500) ]

/-- One trip, seventh stretch: the chosen rows stored as the layer's. -/
abbrev quantsOps : List (HloOp τ sig (Elt F)) :=
  [ StableHlo.TRef.unary (.of main_while0b_v51 : StableHlo.TRef sig ⟨S8x1500x512, .f32⟩) (.of main_while0b_call4_v0 : StableHlo.TRef sig ⟨S1x8x1500x512, .f32⟩) (broadcastInDim S1x8x1500x512 ![1, 2, 3] bcast_S8x1500x512_S1x8x1500x512_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v4_6 : StableHlo.TRef sig ⟨S8x8x1500x512, .f32⟩) (.of main_while0b_call4_v0 : StableHlo.TRef sig ⟨S1x8x1500x512, .f32⟩) ![(.of main_v4_1 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v53 : StableHlo.TRef sig ⟨S8x8x1500x512, .f32⟩) (fun x u i => Host.dynamicUpdateSlice x u (fun k => (i k (Shape.Idx.first h_S_)).toInt) updateFits_S8x8x1500x512_S1x8x1500x512) ]

/-- One trip, last stretch: the counter stepped and the carried buffers replaced. -/
abbrev carryOps : List (HloOp τ sig (Elt F)) :=
  [ StableHlo.nullary main_while0b_c_18 (constantI S_ 32 1#32),
    StableHlo.binary main_v4_1 main_while0b_c_18 main_while0b_v54 (addi : (⟨S_, .i32⟩ : BufTy).Contents (Elt F) → (⟨S_, .i32⟩ : BufTy).Contents (Elt F) → (⟨S_, .i32⟩ : BufTy).Contents (Elt F)),
    StableHlo.unary main_while0b_v54 main_v4_1 id,
    StableHlo.unary main_while0b_v49 main_v4_2 id,
    StableHlo.unary main_while0b_v48 main_v4_3 id,
    StableHlo.unary main_while0b_v45 main_v4_4 id,
    StableHlo.unary main_while0b_v52 main_v4_5 id,
    StableHlo.unary main_while0b_v53 main_v4_6 id ]

/-- The operations after the loop. -/
abbrev postOps : List (HloOp τ sig (Elt F)) :=
  [ StableHlo.reshape main_v4_3 main_v5 (rfl : (.f32 : EltTy) = .f32) shapeCasts_S12000x512_S8x1500x512,
    StableHlo.unary main_arg1 main_v6 ((extractStridedSlice S1x1024x512 ![0, 0, 0] · slices_S8x1024x512_S1x1024x512_0_0_0) : (⟨S8x1024x512, .f32⟩ : BufTy).Contents (Elt F) → (⟨S1x1024x512, .f32⟩ : BufTy).Contents (Elt F)),
    StableHlo.reshape main_v6 main_v7 (rfl : (.f32 : EltTy) = .f32) shapeCasts_S1x1024x512_S1024x512,
    StableHlo.binary main_v0 main_v0 main_v8 (mulf : (⟨S12000x512, .f32⟩ : BufTy).Contents (Elt F) → (⟨S12000x512, .f32⟩ : BufTy).Contents (Elt F) → (⟨S12000x512, .f32⟩ : BufTy).Contents (Elt F)),
    StableHlo.nullary main_cst_3 (constant S_ .f32 0x00000000#32),
    StableHlo.binary main_v8 main_cst_3 main_v9 ((fun x v => Host.reduceAdd x v reducesTo_S12000x512_S12000_d1 h_S_) : (⟨S12000x512, .f32⟩ : BufTy).Contents (Elt F) → (⟨S_, .f32⟩ : BufTy).Contents (Elt F) → (⟨S12000, .f32⟩ : BufTy).Contents (Elt F)),
    StableHlo.unary main_v9 main_v10 (broadcastInDim S12000x1 ![0] bcast_S12000_S12000x1_0 : (⟨S12000, .f32⟩ : BufTy).Contents (Elt F) → (⟨S12000x1, .f32⟩ : BufTy).Contents (Elt F)),
    StableHlo.unary main_v7 main_v11 ((transpose S512x1024 [1, 0] · transposes_S1024x512_S512x1024_1_0) : (⟨S1024x512, .f32⟩ : BufTy).Contents (Elt F) → (⟨S512x1024, .f32⟩ : BufTy).Contents (Elt F)),
    StableHlo.binary main_v0 main_v11 main_v12 ((fun l r => Host.dotGeneral dot_S12000x512_S512x1024_S12000x1024_1_0_0_1_n_n none l r) : (⟨S12000x512, .f32⟩ : BufTy).Contents (Elt F) → (⟨S512x1024, .f32⟩ : BufTy).Contents (Elt F) → (⟨S12000x1024, .f32⟩ : BufTy).Contents (Elt F)),
    StableHlo.nullary main_cst_4 (constant S_ .f32 0x40000000#32),
    StableHlo.unary main_cst_4 main_v13 (broadcastInDim S12000x1024 ![] bcast_S_S12000x1024 : (⟨S_, .f32⟩ : BufTy).Contents (Elt F) → (⟨S12000x1024, .f32⟩ : BufTy).Contents (Elt F)),
    StableHlo.binary main_v13 main_v12 main_v14 (mulf : (⟨S12000x1024, .f32⟩ : BufTy).Contents (Elt F) → (⟨S12000x1024, .f32⟩ : BufTy).Contents (Elt F) → (⟨S12000x1024, .f32⟩ : BufTy).Contents (Elt F)),
    StableHlo.unary main_v10 main_v15 (broadcastInDim S12000x1024 ![0, 1] bcast_S12000x1_S12000x1024_0_1 : (⟨S12000x1, .f32⟩ : BufTy).Contents (Elt F) → (⟨S12000x1024, .f32⟩ : BufTy).Contents (Elt F)),
    StableHlo.binary main_v15 main_v14 main_v16 (subf : (⟨S12000x1024, .f32⟩ : BufTy).Contents (Elt F) → (⟨S12000x1024, .f32⟩ : BufTy).Contents (Elt F) → (⟨S12000x1024, .f32⟩ : BufTy).Contents (Elt F)),
    StableHlo.binary main_v7 main_v7 main_v17 (mulf : (⟨S1024x512, .f32⟩ : BufTy).Contents (Elt F) → (⟨S1024x512, .f32⟩ : BufTy).Contents (Elt F) → (⟨S1024x512, .f32⟩ : BufTy).Contents (Elt F)),
    StableHlo.nullary main_cst_5 (constant S_ .f32 0x00000000#32),
    StableHlo.binary main_v17 main_cst_5 main_v18 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    StableHlo.unary main_v18 main_v19 (broadcastInDim S1x1024 ![1] bcast_S1024_S1x1024_1 : (⟨S1024, .f32⟩ : BufTy).Contents (Elt F) → (⟨S1x1024, .f32⟩ : BufTy).Contents (Elt F)),
    StableHlo.unary main_v19 main_v20 (broadcastInDim S12000x1024 ![0, 1] bcast_S1x1024_S12000x1024_0_1 : (⟨S1x1024, .f32⟩ : BufTy).Contents (Elt F) → (⟨S12000x1024, .f32⟩ : BufTy).Contents (Elt F)),
    StableHlo.binary main_v16 main_v20 main_v21 (addf : (⟨S12000x1024, .f32⟩ : BufTy).Contents (Elt F) → (⟨S12000x1024, .f32⟩ : BufTy).Contents (Elt F) → (⟨S12000x1024, .f32⟩ : BufTy).Contents (Elt F)),
    StableHlo.reshape main_v21 main_v22 (rfl : (.f32 : EltTy) = .f32) shapeCasts_S12000x1024_S8x1500x1024 ]

/-- The condition's two operations: the bound, and the counter compared with it. -/
abbrev condOps : List (HloOp τ sig (Elt F)) :=
  [ StableHlo.nullary main_while0c_c_12 (constantI S_ 32 8#32),
    StableHlo.binary main_v4_1 main_while0c_c_12 main_while0c_v23 (cmpi .slt) ]

/-- The stretches before the loop, of one trip, and after the loop. -/
abbrev preI : List (List (HloOp τ sig (Elt F))) := [preOps]
abbrev bodyI : List (List (HloOp τ sig (Elt F))) :=
  [sliceOps, distOps, argminOps, takeOps, sumOps, codesOps, quantsOps, carryOps]
abbrev postI : List (List (HloOp τ sig (Elt F))) := [postOps]

/-! ## The program is its stretches -/

theorem main_chain (c : Dev nD) : main (F := F) c = (Pipeline.chain
    [StableHlo.seq preOps, HostLoop.enter 0, StableHlo.seq postOps]
    : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

theorem body_chain : main_while0_body (F := F) = (Pipeline.chain
    [StableHlo.seq sliceOps, StableHlo.seq distOps, StableHlo.seq argminOps, StableHlo.seq takeOps, StableHlo.seq sumOps,
     StableHlo.seq codesOps, StableHlo.seq quantsOps, StableHlo.seq carryOps]
    : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, Pipeline.chain_cons,
    StableHlo.chain_seq_cons, Pipeline.chain_cons, Pipeline.chain_cons, StableHlo.chain_seq_cons]
  chain_rfl

/-! ## Each operation is over the TensorCore's buffers and allocates none -/

theorem hpre : Plain (preI (F := F)) :=
  .cons (ops := preOps)
    ⟨reshape_bufs_sub .., nullary_bufs_sub .., unary_bufs_sub .., nullary_bufs_sub .., nullary_bufs_sub ..,
      unary_bufs_sub .., nullary_bufs_sub .., unary_bufs_sub .., nullary_bufs_sub .., unary_bufs_sub ..,
      unary_bufs_sub .., unary_bufs_sub .., unary_bufs_sub .., unary_bufs_sub .., unary_bufs_sub ..,
      unary_bufs_sub ..⟩
    (hf := List.forall_iff_forall_mem.mp (StableHlo.forall_fresh_of_map rfl)) <|
  .nil

theorem hbody : Plain (bodyI (F := F)) :=
  .cons (ops := sliceOps)
    ⟨nullary_bufs_sub .., nullary_bufs_sub .., unaryIndexed_bufs_sub .., reshape_bufs_sub ..⟩
    (hf := List.forall_iff_forall_mem.mp (StableHlo.forall_fresh_of_map rfl)) <|
  .cons (ops := distOps)
    ⟨binary_bufs_sub .., nullary_bufs_sub .., binary_bufs_sub .., unary_bufs_sub .., unary_bufs_sub ..,
      binary_bufs_sub .., nullary_bufs_sub .., unary_bufs_sub .., binary_bufs_sub .., unary_bufs_sub ..,
      binary_bufs_sub .., binary_bufs_sub .., nullary_bufs_sub .., binary_bufs_sub .., unary_bufs_sub ..,
      unary_bufs_sub .., binary_bufs_sub ..⟩
    (hf := List.forall_iff_forall_mem.mp (StableHlo.forall_fresh_of_map rfl)) <|
  .cons (ops := argminOps)
    ⟨nullary_bufs_sub .., nullary_bufs_sub .., nullary_bufs_sub .., quaternary_bufs_sub .., quaternary_bufs_sub ..⟩
    (hf := List.forall_iff_forall_mem.mp (StableHlo.forall_fresh_of_map rfl)) <|
  .cons (ops := takeOps)
    ⟨nullary_bufs_sub .., unary_bufs_sub .., binary_bufs_sub .., nullary_bufs_sub .., unary_bufs_sub ..,
      binary_bufs_sub .., ternary_bufs_sub .., unary_bufs_sub .., nullary_bufs_sub .., nullary_bufs_sub ..,
      unary_bufs_sub .., binary_bufs_sub .., unary_bufs_sub .., unary_bufs_sub .., binary_bufs_sub ..,
      binary_bufs_sub .., nullary_bufs_sub .., binary_bufs_sub .., binary_bufs_sub .., unary_bufs_sub ..,
      nullary_bufs_sub .., unary_bufs_sub .., ternary_bufs_sub ..⟩
    (hf := List.forall_iff_forall_mem.mp (StableHlo.forall_fresh_of_map rfl)) <|
  .cons (ops := sumOps)
    ⟨binary_bufs_sub .., binary_bufs_sub .., nullary_bufs_sub .., binary_bufs_sub .., nullary_bufs_sub ..,
      binary_bufs_sub .., nullary_bufs_sub .., binary_bufs_sub .., binary_bufs_sub .., binary_bufs_sub ..,
      binary_bufs_sub .., binary_bufs_sub .., binary_bufs_sub .., reshape_bufs_sub .., reshape_bufs_sub ..⟩
    (hf := List.forall_iff_forall_mem.mp (StableHlo.forall_fresh_of_map rfl)) <|
  .cons (ops := codesOps)
    ⟨unary_bufs_sub .., nullary_bufs_sub .., nullary_bufs_sub .., binaryIndexed_bufs_sub ..⟩
    (hf := List.forall_iff_forall_mem.mp (StableHlo.forall_fresh_of_map rfl)) <|
  .cons (ops := quantsOps)
    ⟨unary_bufs_sub .., nullary_bufs_sub .., nullary_bufs_sub .., nullary_bufs_sub .., binaryIndexed_bufs_sub ..⟩
    (hf := List.forall_iff_forall_mem.mp (StableHlo.forall_fresh_of_map rfl)) <|
  .cons (ops := carryOps)
    ⟨nullary_bufs_sub .., binary_bufs_sub .., unary_bufs_sub .., unary_bufs_sub .., unary_bufs_sub ..,
      unary_bufs_sub .., unary_bufs_sub .., unary_bufs_sub ..⟩
    (hf := List.forall_iff_forall_mem.mp (StableHlo.forall_fresh_of_map rfl)) <|
  .nil

theorem hpost : Plain (postI (F := F)) :=
  .cons (ops := postOps)
    ⟨reshape_bufs_sub .., unary_bufs_sub .., reshape_bufs_sub .., binary_bufs_sub .., nullary_bufs_sub ..,
      binary_bufs_sub .., unary_bufs_sub .., unary_bufs_sub .., binary_bufs_sub .., nullary_bufs_sub ..,
      unary_bufs_sub .., binary_bufs_sub .., unary_bufs_sub .., binary_bufs_sub .., binary_bufs_sub ..,
      nullary_bufs_sub .., binary_bufs_sub .., unary_bufs_sub .., unary_bufs_sub .., binary_bufs_sub ..,
      reshape_bufs_sub ..⟩
    (hf := List.forall_iff_forall_mem.mp (StableHlo.forall_fresh_of_map rfl)) <|
  .nil

/-! ## The trip counter -/

variable (m : (ℓ : Loc nD τ sig) → Buf (Elt F) ℓ) (ρ : Dev nD → PrngReg)

/-- Every buffer's contents before the `k`-th test of the condition. -/
abbrev atK (k : ℕ) (c : Dev nD) : Valuation τ sig (Elt F) := atTrip condOps bodyI (entryContents preI m) k c

set_option maxRecDepth 100000 in
/-- A trip leaves the counter one step on. -/
theorem ctr_step (V : Valuation τ sig (Elt F)) :
    afterL bodyI (after condOps V) (Proc.devRef .tc main_v4_1) = addi (V (Proc.devRef .tc main_v4_1)) (constantI S_ 32 1#32) := by
  simp only [afterL_cons, afterL_nil]
  after_reads_simp
  rfl

/-- The counter starts at zero. -/
theorem ctr_entry (c : Dev nD) : entryContents preI m c (Proc.devRef .tc main_v4_1) = fun _ => (0#32 : BitVec 32) := by
  simp only [entryContents, afterL_cons, afterL_nil]
  after_reads_simp
  rfl

/-- Before the `k`-th test the counter is `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, ctr_step, atK_ctr c k, Scf.iv_succ]
    rfl

-- a rule stated for any thread is applied at the TensorCore thread: unification may unfold plain definitions in types
set_option backward.isDefEq.respectTransparency.types false in
/-- The condition holds before the first eight trips and fails after them. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_12 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

/-- Every buffer's contents at the end. -/
abbrev final (c : Dev nD) : Valuation τ sig (Elt F) := finalContents condOps preI bodyI postI 8 m c

set_option maxRecDepth 100000 in
/-- From any memory with zero counters the reference ends with every buffer at `final` and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  (θ_run defs _ _).mono (fun r h => ⟨h, sem_eq_zero_of_no_sems (by decide) r.2⟩)
    (run_loop (pcfgs (F := F)) defs₀ loops main 0 main_while0_cond main_while0_body rfl preI bodyI postI condOps hpre hbody hpost
      (fun c => by rw [main_chain]; rfl) (by rw [body_chain]; rfl) 8 m ρ (cond_spec m))

end Cert.Ref

end
-- ==== Proof.RefTrip.lean ====
/- What one trip of the reference's loop over the codebooks computes, as functions of the buffers it starts from, and what
   the whole program leaves in each result in terms of the eight trips. -/
module

public import proofs.«01_k».proof.Proof.RefRun

@[expose] public section

noncomputable section

namespace Cert.Ref

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-! ## The functions of one trip -/

/-- The zero scalar of each kind. -/
abbrev zeroF : Vec F S_ .f32 := constant S_ .f32 0x00000000#32
abbrev zeroI : Vec F S_ .i32 := constantI S_ 32 0#32

/-- Codebook number `i` of the stack. -/
def layerT (C : Vec F S8x1024x512 .f32) (i : Vec F S_ .i32) : Vec F S1024x512 .f32 :=
  shapeCast S1024x512 (Host.dynamicSlice S1x1024x512 C
    (fun k => ((![i, zeroI (F := F), zeroI (F := F)] : Fin 3 → Vec F S_ .i32) k (Shape.Idx.first h_S_) : BitVec 32).toInt) sliceFits_S8x1024x512_S1x1024x512)
    shapeCasts_S1x1024x512_S1024x512

/-- The distances of every residual to every row of a codebook. -/
def distT (cb : Vec F S1024x512 .f32) (R : Vec F S12000x512 .f32) : Vec F S12000x1024 .f32 :=
  addf
    (subf
      (broadcastInDim S12000x1024 ![0, 1] bcast_S12000x1_S12000x1024_0_1
        (broadcastInDim S12000x1 ![0] bcast_S12000_S12000x1_0 (Host.reduceAdd (mulf R R) zeroF reducesTo_S12000x512_S12000_d1 h_S_)))
      (mulf (broadcastInDim S12000x1024 ![] bcast_S_S12000x1024 (constant S_ .f32 0x40000000#32))
        (Host.dotGeneral dot_S12000x512_S512x1024_S12000x1024_1_0_0_1_n_n none R (transpose S512x1024 [1, 0] cb transposes_S1024x512_S512x1024_1_0))))
    (broadcastInDim S12000x1024 ![0, 1] bcast_S1x1024_S12000x1024_0_1
      (broadcastInDim S1x1024 ![1] bcast_S1024_S1x1024_1 (Host.reduceAdd (mulf cb cb) zeroF reducesTo_S1024x512_S1024_d1 h_S_)))

/-- The number of each residual's first nearest row. -/
def argT (d : Vec F S12000x1024 .f32) : Vec F S12000 .i32 := fun j =>
  (Host.argReduce reducer_argmin_f32_i32 d (iotaInDim S12000x1024 32 1) (constant S_ .f32 0x7F800000#32) (constantI S_ 32 0#32)
    reducesTo_S12000x1024_S12000_d1 h_S_ j).2

/-- The row numbers with the negative ones counted from the end, as a column. -/
def wrapT (ix : Vec F S12000 .i32) : Vec F S12000x1 .i32 :=
  broadcastInDim S12000x1 ![0] bcast_S12000_S12000x1_0
    (select (cmpi .slt ix (broadcastInDim S12000 ![] bcast_S_S12000 (constantI S_ 32 0#32)))
      (addi ix (broadcastInDim S12000 ![] bcast_S_S12000 (constantI S_ 32 1024#32))) ix)

/-- The rows of a codebook with the given numbers; a number out of range would give not-a-number. -/
def takeT (cb : Vec F S1024x512 .f32) (ix : Vec F S12000 .i32) : Vec F S12000x512 .f32 :=
  select
    (broadcastInDim S12000x512 ![0] bcast_S12000_S12000x512_0
      (Host.reduce IntOp.andi
        (andi (cmpi .sge (wrapT (F := F) ix) (broadcastInDim S12000x1 ![] bcast_S_S12000x1 (constantI S_ 32 0#32)))
          (cmpi .sle (wrapT (F := F) ix) (broadcastInDim S12000x1 ![0, 1] bcast_S1x1_S12000x1_0_1 (broadcastInDim S1x1 ![1] bcast_S1_S1x1_1 (constantI S1 32 1023#32)))))
        (constantI S_ 1 1#1) reducesTo_S12000x1_S12000_d1 h_S_))
    (Host.gather gather_S1024x512_S12000x1_S12000x512_1_0_n_n_0_1_1512 cb (wrapT (F := F) ix))
    (broadcastInDim S12000x512 ![] bcast_S_S12000x512 (constant S_ .f32 0x7FC00000#32))

/-- A layer's loss term. -/
def lossT (R Q : Vec F S12000x512 .f32) : Vec F S_ .f32 :=
  mulf (Host.divf (Host.reduceAdd (mulf (subf Q R) (subf Q R)) zeroF reducesTo_S12000x512_S_d0_1 h_S_) (constant S_ .f32 0x4ABB8000#32))
    (constant S_ .f32 0x3DCCCCCD#32)

/-- A layer's row numbers stored at place `i` of the stack of them. -/
def putCodes (X : Vec F S8x8x1500 .i32) (i : Vec F S_ .i32) (ix : Vec F S12000 .i32) : Vec F S8x8x1500 .i32 :=
  Host.dynamicUpdateSlice X (broadcastInDim S1x8x1500 ![1, 2] bcast_S8x1500_S1x8x1500_1_2 (shapeCast S8x1500 ix shapeCasts_S12000_S8x1500))
    (fun k => ((![i, zeroI (F := F), zeroI (F := F)] : Fin 3 → Vec F S_ .i32) k (Shape.Idx.first h_S_) : BitVec 32).toInt) updateFits_S8x8x1500_S1x8x1500

/-- A layer's rows stored at place `i` of the stack of them. -/
def putQuants (X : Vec F S8x8x1500x512 .f32) (i : Vec F S_ .i32) (Q : Vec F S12000x512 .f32) : Vec F S8x8x1500x512 .f32 :=
  Host.dynamicUpdateSlice X (broadcastInDim S1x8x1500x512 ![1, 2, 3] bcast_S8x1500x512_S1x8x1500x512_1_2_3 (shapeCast S8x1500x512 Q shapeCasts_S12000x512_S8x1500x512))
    (fun k => ((![i, zeroI (F := F), zeroI (F := F), zeroI (F := F)] : Fin 4 → Vec F S_ .i32) k (Shape.Idx.first h_S_) : BitVec 32).toInt) updateFits_S8x8x1500x512_S1x8x1500x512

/-! ## Stretch by stretch -/

/-- The arguments and the buffers the loop carries. -/
abbrev kept : List (Ref sig .tc) := [main_arg0, main_arg1, main_v0, main_v4_0, main_v4_1, main_v4_2, main_v4_3, main_v4_4, main_v4_5, main_v4_6]

/-- Operations that write none of a list of buffers keep every one of them. -/
theorem keep_of {W L : List (Ref sig .tc)} {ops : List (HloOp τ sig (Elt F))} (h : ops.map HloOp.writes = W.map fun r => {Proc.devRef .tc r})
    (d : ∀ r ∈ L, r ∉ W) (r : Ref sig .tc) (hr : r ∈ L) (V : Valuation τ sig (Elt F)) :
    after ops V (Proc.devRef .tc r) = V (Proc.devRef .tc r) :=
  after_of_writes_sub _ V (forall_writes_sub_of_map h) (d r hr)

theorem keep_cond : ∀ r ∈ kept, ∀ V : Valuation τ sig (Elt F), after condOps V (Proc.devRef .tc r) = V (Proc.devRef .tc r) :=
  keep_of (W := [main_while0c_c_12, main_while0c_v23]) rfl (by decide)

theorem keep_slice : ∀ r ∈ kept, ∀ V : Valuation τ sig (Elt F), after sliceOps V (Proc.devRef .tc r) = V (Proc.devRef .tc r) :=
  keep_of (W := [main_while0b_call0_c, main_while0b_call0_c_0, main_while0b_call0_v0, main_while0b_v23]) rfl (by decide)

theorem keep_dist : ∀ r ∈ (main_while0b_v23 :: kept), ∀ V : Valuation τ sig (Elt F), after distOps V (Proc.devRef .tc r) = V (Proc.devRef .tc r) :=
  keep_of (W := [main_while0b_v24, main_while0b_cst_12, main_while0b_v25, main_while0b_v26, main_while0b_v27, main_while0b_v28, main_while0b_cst_13, main_while0b_v29, main_while0b_v30, main_while0b_v31, main_while0b_v32, main_while0b_v33, main_while0b_cst_14, main_while0b_v34, main_while0b_v35, main_while0b_v36, main_while0b_v37]) rfl (by decide)

theorem keep_argmin : ∀ r ∈ (main_while0b_v23 :: main_while0b_v37 :: kept), ∀ V : Valuation τ sig (Elt F), after argminOps V (Proc.devRef .tc r) = V (Proc.devRef .tc r) :=
  keep_of (W := [main_while0b_call1_v0, main_while0b_call1_cst, main_while0b_call1_c, main_while0b_call1_v1_0, main_while0b_v38]) rfl (by decide)

theorem keep_take : ∀ r ∈ (main_while0b_v38 :: kept), ∀ V : Valuation τ sig (Elt F), after takeOps V (Proc.devRef .tc r) = V (Proc.devRef .tc r) :=
  keep_of (W := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_v14, main_while0b_call2_cst, main_while0b_call2_v15, main_while0b_v39]) rfl (by decide)

theorem keep_sum : ∀ r ∈ (main_while0b_v38 :: main_while0b_v39 :: kept), ∀ V : Valuation τ sig (Elt F), after sumOps V (Proc.devRef .tc r) = V (Proc.devRef .tc r) :=
  keep_of (W := [main_while0b_v40, main_while0b_v41, main_while0b_cst_15, main_while0b_v42, main_while0b_cst_16, main_while0b_v43, main_while0b_cst_17, main_while0b_v44, main_while0b_v45, main_while0b_v46, main_while0b_v47, main_while0b_v48, main_while0b_v49, main_while0b_v50, main_while0b_v51]) rfl (by decide)

theorem keep_codes : ∀ r ∈ ([main_while0b_v45, main_while0b_v48, main_while0b_v49, main_while0b_v51] ++ kept), ∀ V : Valuation τ sig (Elt F), after codesOps V (Proc.devRef .tc r) = V (Proc.devRef .tc r) :=
  keep_of (W := [main_while0b_call3_v0, main_while0b_call3_c, main_while0b_call3_c_0, main_while0b_v52]) rfl (by decide)

theorem keep_quants : ∀ r ∈ ([main_while0b_v45, main_while0b_v48, main_while0b_v49, main_while0b_v52] ++ kept), ∀ V : Valuation τ sig (Elt F), after quantsOps V (Proc.devRef .tc r) = V (Proc.devRef .tc r) :=
  keep_of (W := [main_while0b_call4_v0, main_while0b_call4_c, main_while0b_call4_c_0, main_while0b_call4_c_1, main_while0b_v53]) rfl (by decide)

theorem keep_carry : ∀ r ∈ [main_arg0, main_arg1, main_v0, main_v4_0], ∀ V : Valuation τ sig (Elt F), after carryOps V (Proc.devRef .tc r) = V (Proc.devRef .tc r) :=
  keep_of (W := [main_while0b_c_18, main_while0b_v54, main_v4_1, main_v4_2, main_v4_3, main_v4_4, main_v4_5, main_v4_6]) rfl (by decide)

set_option maxRecDepth 100000 in
/-- The first stretch leaves the codebook whose number is the counter. -/
theorem slice_v (V : Valuation τ sig (Elt F)) : after sliceOps V (Proc.devRef .tc main_while0b_v23) = layerT (V (Proc.devRef .tc main_v4_0)) (V (Proc.devRef .tc main_v4_1)) := by
  after_reads_simp
  unfold layerT
  have e : ∀ {a b : Fin 3 → Int}, a = b → ∀ X : Vec F S8x1024x512 .f32,
      shapeCast S1024x512 (Host.dynamicSlice S1x1024x512 X a sliceFits_S8x1024x512_S1x1024x512) shapeCasts_S1x1024x512_S1024x512
      = shapeCast S1024x512 (Host.dynamicSlice S1x1024x512 X b sliceFits_S8x1024x512_S1x1024x512) shapeCasts_S1x1024x512_S1024x512 := by
    rintro a b rfl X; rfl
  refine e ?_ (V (Proc.devRef .tc main_v4_0))
  funext k
  fin_cases k <;> rfl

set_option maxRecDepth 100000 in
/-- The second stretch leaves the distances. -/
theorem dist_v (V : Valuation τ sig (Elt F)) :
    after distOps V (Proc.devRef .tc main_while0b_v37) = distT (V (Proc.devRef .tc main_while0b_v23)) (V (Proc.devRef .tc main_v4_2)) := by
  after_reads_simp
  rfl

set_option maxRecDepth 100000 in
/-- The third stretch leaves the numbers of the nearest rows. -/
theorem argmin_v (V : Valuation τ sig (Elt F)) :
    after argminOps V (Proc.devRef .tc main_while0b_v38) = argT (V (Proc.devRef .tc main_while0b_v37)) := by
  after_reads_simp
  rfl

set_option maxRecDepth 100000 in
/-- The fourth stretch leaves the rows chosen. -/
theorem take_v (V : Valuation τ sig (Elt F)) :
    after takeOps V (Proc.devRef .tc main_while0b_v39) = takeT (V (Proc.devRef .tc main_while0b_v23)) (V (Proc.devRef .tc main_while0b_v38)) := by
  after_reads_simp
  rfl

section
variable (V : Valuation τ sig (Elt F))

set_option maxRecDepth 100000 in
/-- The fifth stretch leaves the loss so far, the sum of the layers so far, the next residual, and the row numbers and the
    rows by batch row. -/
theorem sum_v :
    after sumOps V (Proc.devRef .tc main_while0b_v45)
        = addf (V (Proc.devRef .tc main_v4_4)) (lossT (V (Proc.devRef .tc main_v4_2)) (V (Proc.devRef .tc main_while0b_v39)))
    ∧ after sumOps V (Proc.devRef .tc main_while0b_v48)
        = addf (V (Proc.devRef .tc main_v4_3))
            (addf (V (Proc.devRef .tc main_v4_2)) (subf (V (Proc.devRef .tc main_while0b_v39)) (V (Proc.devRef .tc main_v4_2))))
    ∧ after sumOps V (Proc.devRef .tc main_while0b_v49) = subf (V (Proc.devRef .tc main_v4_2)) (V (Proc.devRef .tc main_while0b_v39))
    ∧ after sumOps V (Proc.devRef .tc main_while0b_v50) = shapeCast S8x1500 (V (Proc.devRef .tc main_while0b_v38)) shapeCasts_S12000_S8x1500
    ∧ after sumOps V (Proc.devRef .tc main_while0b_v51)
        = shapeCast S8x1500x512 (V (Proc.devRef .tc main_while0b_v39)) shapeCasts_S12000x512_S8x1500x512 := by
  refine ⟨?_, ?_, ?_, ?_, ?_⟩
  all_goals
    after_reads_simp
    try rfl

set_option maxRecDepth 100000 in
/-- The sixth stretch leaves the row numbers with the layer's stored. -/
theorem codes_v (ix : Vec F S12000 .i32) (h : V (Proc.devRef .tc main_while0b_v50) = shapeCast S8x1500 ix shapeCasts_S12000_S8x1500) :
    after codesOps V (Proc.devRef .tc main_while0b_v52) = putCodes (V (Proc.devRef .tc main_v4_5)) (V (Proc.devRef .tc main_v4_1)) ix := by
  have e : ∀ {a b : Fin 3 → Int}, a = b → ∀ {u v : Vec F S1x8x1500 .i32}, u = v → ∀ X : Vec F S8x8x1500 .i32,
      Host.dynamicUpdateSlice X u a updateFits_S8x8x1500_S1x8x1500 = Host.dynamicUpdateSlice X v b updateFits_S8x8x1500_S1x8x1500 := by
    rintro a b rfl u v rfl X; rfl
  after_reads_simp
  refine e ?_ ?_ (V (Proc.devRef .tc main_v4_5))
  · funext k
    fin_cases k <;> rfl
  · exact congrArg (broadcastInDim S1x8x1500 ![1, 2] bcast_S8x1500_S1x8x1500_1_2) h

set_option maxRecDepth 100000 in
/-- The seventh stretch leaves the rows with the layer's stored. -/
theorem quants_v (Q : Vec F S12000x512 .f32) (h : V (Proc.devRef .tc main_while0b_v51) = shapeCast S8x1500x512 Q shapeCasts_S12000x512_S8x1500x512) :
    after quantsOps V (Proc.devRef .tc main_while0b_v53) = putQuants (V (Proc.devRef .tc main_v4_6)) (V (Proc.devRef .tc main_v4_1)) Q := by
  have e : ∀ {a b : Fin 4 → Int}, a = b → ∀ {u v : Vec F S1x8x1500x512 .f32}, u = v → ∀ X : Vec F S8x8x1500x512 .f32,
      Host.dynamicUpdateSlice X u a updateFits_S8x8x1500x512_S1x8x1500x512
      = Host.dynamicUpdateSlice X v b updateFits_S8x8x1500x512_S1x8x1500x512 := by
    rintro a b rfl u v rfl X; rfl
  after_reads_simp
  refine e ?_ ?_ (V (Proc.devRef .tc main_v4_6))
  · funext k
    fin_cases k <;> rfl
  · exact congrArg (broadcastInDim S1x8x1500x512 ![1, 2, 3] bcast_S8x1500x512_S1x8x1500x512_1_2_3) h

/-- The last stretch replaces the carried buffers. -/
theorem carry_v :
    after carryOps V (Proc.devRef .tc main_v4_2) = V (Proc.devRef .tc main_while0b_v49)
    ∧ after carryOps V (Proc.devRef .tc main_v4_3) = V (Proc.devRef .tc main_while0b_v48)
    ∧ after carryOps V (Proc.devRef .tc main_v4_4) = V (Proc.devRef .tc main_while0b_v45)
    ∧ after carryOps V (Proc.devRef .tc main_v4_5) = V (Proc.devRef .tc main_while0b_v52)
    ∧ after carryOps V (Proc.devRef .tc main_v4_6) = V (Proc.devRef .tc main_while0b_v53) := by
  refine ⟨?_, ?_, ?_, ?_, ?_⟩
  all_goals
    after_reads_simp
    try rfl

end

/-! ## A whole trip -/

/-- What a whole trip, the exit test before it included, makes of the carried buffers, and that it keeps the arguments. -/
theorem trip (V : Valuation τ sig (Elt F)) :
    (∀ r ∈ ([main_arg0, main_arg1, main_v0, main_v4_0] : List (Ref sig .tc)),
      afterL bodyI (after condOps V) (Proc.devRef .tc r) = V (Proc.devRef .tc r))
    ∧ ∀ cb, cb = layerT (V (Proc.devRef .tc main_v4_0)) (V (Proc.devRef .tc main_v4_1)) →
      ∀ ix, ix = argT (distT cb (V (Proc.devRef .tc main_v4_2))) → ∀ Q, Q = takeT cb ix →
        afterL bodyI (after condOps V) (Proc.devRef .tc main_v4_2) = subf (V (Proc.devRef .tc main_v4_2)) Q
        ∧ afterL bodyI (after condOps V) (Proc.devRef .tc main_v4_3)
            = addf (V (Proc.devRef .tc main_v4_3)) (addf (V (Proc.devRef .tc main_v4_2)) (subf Q (V (Proc.devRef .tc main_v4_2))))
        ∧ afterL bodyI (after condOps V) (Proc.devRef .tc main_v4_4)
            = addf (V (Proc.devRef .tc main_v4_4)) (lossT (V (Proc.devRef .tc main_v4_2)) Q)
        ∧ afterL bodyI (after condOps V) (Proc.devRef .tc main_v4_5)
            = putCodes (V (Proc.devRef .tc main_v4_5)) (V (Proc.devRef .tc main_v4_1)) ix
        ∧ afterL bodyI (after condOps V) (Proc.devRef .tc main_v4_6)
            = putQuants (V (Proc.devRef .tc main_v4_6)) (V (Proc.devRef .tc main_v4_1)) Q := by
  simp only [afterL_cons, afterL_nil]
  set V0 := after condOps V with e0
  set V1 := after sliceOps V0 with e1
  set V2 := after distOps V1 with e2
  set V3 := after argminOps V2 with e3
  set V4 := after takeOps V3 with e4
  set V5 := after sumOps V4 with e5
  set V6 := after codesOps V5 with e6
  set V7 := after quantsOps V6 with e7
  have k0 : ∀ r ∈ kept, V0 (Proc.devRef .tc r) = V (Proc.devRef .tc r) := fun r hr => keep_cond r hr V
  have k1 : ∀ r ∈ kept, V1 (Proc.devRef .tc r) = V (Proc.devRef .tc r) := fun r hr => (keep_slice r hr V0).trans (k0 r hr)
  have k2 : ∀ r ∈ kept, V2 (Proc.devRef .tc r) = V (Proc.devRef .tc r) := fun r hr =>
    (keep_dist r (List.mem_cons_of_mem _ hr) V1).trans (k1 r hr)
  have k3 : ∀ r ∈ kept, V3 (Proc.devRef .tc r) = V (Proc.devRef .tc r) := fun r hr =>
    (keep_argmin r (List.mem_cons_of_mem _ (List.mem_cons_of_mem _ hr)) V2).trans (k2 r hr)
  have k4 : ∀ r ∈ kept, V4 (Proc.devRef .tc r) = V (Proc.devRef .tc r) := fun r hr =>
    (keep_take r (List.mem_cons_of_mem _ hr) V3).trans (k3 r hr)
  have k5 : ∀ r ∈ kept, V5 (Proc.devRef .tc r) = V (Proc.devRef .tc r) := fun r hr =>
    (keep_sum r (List.mem_cons_of_mem _ (List.mem_cons_of_mem _ hr)) V4).trans (k4 r hr)
  have k6 : ∀ r ∈ kept, V6 (Proc.devRef .tc r) = V (Proc.devRef .tc r) := fun r hr =>
    (keep_codes r (List.mem_append_right _ hr) V5).trans (k5 r hr)
  have k7 : ∀ r ∈ kept, V7 (Proc.devRef .tc r) = V (Proc.devRef .tc r) := fun r hr =>
    (keep_quants r (List.mem_append_right _ hr) V6).trans (k6 r hr)
  refine ⟨fun r hr => (keep_carry r hr V7).trans (k7 r ((by decide : ∀ r ∈ ([main_arg0, main_arg1, main_v0, main_v4_0] : List (Ref sig .tc)), r ∈ kept) r hr)), ?_⟩
  intro cb hcb ix hix Q hQ
  have c1 : V1 (Proc.devRef .tc main_while0b_v23) = cb := by
    rw [hcb, e1, slice_v, k0 main_v4_0 (by decide), k0 main_v4_1 (by decide)]
  have c2 : V2 (Proc.devRef .tc main_while0b_v23) = cb := (keep_dist _ (by decide) V1).trans c1
  have c3 : V3 (Proc.devRef .tc main_while0b_v23) = cb := (keep_argmin _ (by decide) V2).trans c2
  have x3 : V3 (Proc.devRef .tc main_while0b_v38) = ix := by
    rw [hix, e3, argmin_v, e2, dist_v, c1, k1 main_v4_2 (by decide)]
  have x4 : V4 (Proc.devRef .tc main_while0b_v38) = ix := (keep_take _ (by decide) V3).trans x3
  have q4 : V4 (Proc.devRef .tc main_while0b_v39) = Q := by rw [hQ, e4, take_v, c3, x3]
  obtain ⟨s45, s48, s49, s50, s51⟩ := sum_v V4
  obtain ⟨a2, a3, a4, a5, a6⟩ := carry_v V7
  refine ⟨?_, ?_, ?_, ?_, ?_⟩
  · rw [a2, e7, keep_quants main_while0b_v49 (by decide), e6, keep_codes main_while0b_v49 (by decide), e5, s49, q4, k4 main_v4_2 (by decide)]
  · rw [a3, e7, keep_quants main_while0b_v48 (by decide), e6, keep_codes main_while0b_v48 (by decide), e5, s48, q4, k4 main_v4_2 (by decide), k4 main_v4_3 (by decide)]
  · rw [a4, e7, keep_quants main_while0b_v45 (by decide), e6, keep_codes main_while0b_v45 (by decide), e5, s45, q4, k4 main_v4_2 (by decide), k4 main_v4_4 (by decide)]
  · rw [a5, e7, keep_quants main_while0b_v52 (by decide), e6, codes_v V5 ix (by rw [e5, s50, x4]), k5 main_v4_5 (by decide), k5 main_v4_1 (by decide)]
  · rw [a6, e7, quants_v V6 Q (by rw [e6, keep_codes main_while0b_v51 (by decide), e5, s51, q4]), k6 main_v4_6 (by decide), k6 main_v4_1 (by decide)]

/-! ## All the trips -/

/-- The counter before trip `k`. -/
abbrev ctr (k : ℕ) : Vec F S_ .i32 := fun _ => Scf.iv 0#32 1#32 k

/-- The codebook of trip `k`. -/
def cbK (C : Vec F S8x1024x512 .f32) (k : ℕ) : Vec F S1024x512 .f32 := layerT C (ctr (F := F) k)

/-- The nearest row numbers and the rows, for residuals `R` at trip `k`. -/
def ixOf (C : Vec F S8x1024x512 .f32) (k : ℕ) (R : Vec F S12000x512 .f32) : Vec F S12000 .i32 := argT (distT (cbK C k) R)
def qOf (C : Vec F S8x1024x512 .f32) (k : ℕ) (R : Vec F S12000x512 .f32) : Vec F S12000x512 .f32 := takeT (cbK C k) (ixOf C k R)

/-- The carried buffers before each trip: the residuals, the sum of the layers, the loss, the row numbers and the rows. -/
structure Carried (F : FTy → Type) where
  res : Vec F S12000x512 .f32
  xq : Vec F S12000x512 .f32
  loss : Vec F S_ .f32
  codes : Vec F S8x8x1500 .i32
  quants : Vec F S8x8x1500x512 .f32

/-- Them before the first trip. -/
def start (X : Vec F S8x1500x512 .f32) : Carried F where
  res := shapeCast S12000x512 X shapeCasts_S8x1500x512_S12000x512
  xq := broadcastInDim S12000x512 ![] bcast_S_S12000x512 zeroF
  loss := zeroF
  codes := broadcastInDim S8x8x1500 ![] bcast_S_S8x8x1500 (zeroI (F := F))
  quants := broadcastInDim S8x8x1500x512 ![] bcast_S_S8x8x1500x512 zeroF

/-- Them after trip `k`, from them before it. -/
def next (C : Vec F S8x1024x512 .f32) (k : ℕ) (p : Carried F) : Carried F where
  res := subf p.res (qOf C k p.res)
  xq := addf p.xq (addf p.res (subf (qOf C k p.res) p.res))
  loss := addf p.loss (lossT p.res (qOf C k p.res))
  codes := putCodes p.codes (ctr (F := F) k) (ixOf C k p.res)
  quants := putQuants p.quants (ctr (F := F) k) (qOf C k p.res)

def carried (C : Vec F S8x1024x512 .f32) (X : Vec F S8x1500x512 .f32) : ℕ → Carried F
  | 0 => start X
  | k + 1 => next C k (carried C X k)

variable (m : (ℓ : Loc nD τ sig) → Buf (Elt F) ℓ)

set_option maxRecDepth 100000 in
/-- The buffers before trip `k`. -/
theorem atK_carried (c : Dev nD) : ∀ k,
    (atK m k c (Proc.devRef .tc main_arg0) = m (c.tc.loc main_arg0) ∧ atK m k c (Proc.devRef .tc main_arg1) = m (c.tc.loc main_arg1)
      ∧ atK m k c (Proc.devRef .tc main_v0) = shapeCast S12000x512 (m (c.tc.loc main_arg0)) shapeCasts_S8x1500x512_S12000x512
      ∧ atK m k c (Proc.devRef .tc main_v4_0) = m (c.tc.loc main_arg1))
    ∧ (atK m k c (Proc.devRef .tc main_v4_2) = (carried (m (c.tc.loc main_arg1)) (m (c.tc.loc main_arg0)) k).res
      ∧ atK m k c (Proc.devRef .tc main_v4_3) = (carried (m (c.tc.loc main_arg1)) (m (c.tc.loc main_arg0)) k).xq
      ∧ atK m k c (Proc.devRef .tc main_v4_4) = (carried (m (c.tc.loc main_arg1)) (m (c.tc.loc main_arg0)) k).loss
      ∧ atK m k c (Proc.devRef .tc main_v4_5) = (carried (m (c.tc.loc main_arg1)) (m (c.tc.loc main_arg0)) k).codes
      ∧ atK m k c (Proc.devRef .tc main_v4_6) = (carried (m (c.tc.loc main_arg1)) (m (c.tc.loc main_arg0)) k).quants)
  | 0 => by
    show (afterL preI _ _ = _ ∧ afterL preI _ _ = _ ∧ afterL preI _ _ = _ ∧ afterL preI _ _ = _)
      ∧ (afterL preI _ _ = _ ∧ afterL preI _ _ = _ ∧ afterL preI _ _ = _ ∧ afterL preI _ _ = _ ∧ afterL preI _ _ = _)
    simp only [afterL_cons, afterL_nil]
    refine ⟨⟨?_, ?_, ?_, ?_⟩, ?_, ?_, ?_, ?_, ?_⟩
    all_goals
      after_reads_simp
      try rfl
  | k + 1 => by
    obtain ⟨⟨h0, h1, hv0, h40⟩, h2, h3, h4, h5, h6⟩ := atK_carried c k
    obtain ⟨keep, vals⟩ := trip (atK m k c)
    obtain ⟨v2, v3, v4, v5, v6⟩ := vals _ rfl _ rfl _ rfl
    rw [h40, atK_ctr] at v2 v3 v4 v5 v6
    rw [h2] at v2 v3 v4 v5 v6
    rw [h3] at v3
    rw [h4] at v4
    rw [h5] at v5
    rw [h6] at v6
    exact ⟨⟨(keep _ (by decide)).trans h0, (keep _ (by decide)).trans h1, (keep _ (by decide)).trans hv0, (keep _ (by decide)).trans h40⟩,
      v2, v3, v4, v5, v6⟩

/-! ## The results -/

set_option maxRecDepth 100000 in
/-- What the program leaves in its arguments and its results. -/
theorem final_vals (c : Dev nD) (X : Vec F S8x1500x512 .f32) (hX : m (c.tc.loc main_arg0) = X)
    (C : Vec F S8x1024x512 .f32) (hC : m (c.tc.loc main_arg1) = C) :
    (final m c (Proc.devRef .tc main_arg0) = X ∧ final m c (Proc.devRef .tc main_arg1) = C)
    ∧ final m c (Proc.devRef .tc main_v5) = shapeCast S8x1500x512 (carried C X 8).xq shapeCasts_S12000x512_S8x1500x512
    ∧ final m c (Proc.devRef .tc main_v4_5) = (carried C X 8).codes
    ∧ final m c (Proc.devRef .tc main_v4_4) = (carried C X 8).loss
    ∧ final m c (Proc.devRef .tc main_v4_6) = (carried C X 8).quants
    ∧ final m c (Proc.devRef .tc main_v22) = shapeCast S8x1500x1024
        (distT (shapeCast S1024x512 (extractStridedSlice S1x1024x512 ![0, 0, 0] C slices_S8x1024x512_S1x1024x512_0_0_0) shapeCasts_S1x1024x512_S1024x512)
          (shapeCast S12000x512 X shapeCasts_S8x1500x512_S12000x512)) shapeCasts_S12000x1024_S8x1500x1024 := by
  subst hX hC
  obtain ⟨⟨h0, h1, hv0, h40⟩, h2, h3, h4, h5, h6⟩ := atK_carried m c 8
  show (afterL postI (after condOps (atK m 8 c)) _ = _ ∧ afterL postI (after condOps (atK m 8 c)) _ = _)
    ∧ afterL postI (after condOps (atK m 8 c)) _ = _ ∧ afterL postI (after condOps (atK m 8 c)) _ = _
    ∧ afterL postI (after condOps (atK m 8 c)) _ = _ ∧ afterL postI (after condOps (atK m 8 c)) _ = _
    ∧ afterL postI (after condOps (atK m 8 c)) _ = _
  have k0 : ∀ r ∈ kept, after condOps (atK m 8 c) (Proc.devRef .tc r) = atK m 8 c (Proc.devRef .tc r) := fun r hr => keep_cond r hr _
  generalize after condOps (atK m 8 c) = W at k0 ⊢
  replace h0 := (k0 _ (by decide)).trans h0
  replace h1 := (k0 _ (by decide)).trans h1
  replace hv0 := (k0 _ (by decide)).trans hv0
  replace h3 := (k0 _ (by decide)).trans h3
  replace h4 := (k0 _ (by decide)).trans h4
  replace h5 := (k0 _ (by decide)).trans h5
  replace h6 := (k0 _ (by decide)).trans h6
  rw [← h3, ← h4, ← h5, ← h6, ← hv0, ← h1, ← h0]
  simp only [afterL_cons, afterL_nil]
  refine ⟨⟨?_, ?_⟩, ?_, ?_, ?_, ?_, ?_⟩
  all_goals
    after_reads_simp
    try rfl

end Cert.Ref

end
-- ==== Proof.Frames.lean ====
/- The claims on how the three programs run: each ends from any memory, with its arguments unchanged and every counter at
   zero; and the one renamed constant has the value named for it. -/
module

public import proofs.«01_k».proof.Defs
public import proofs.«01_k».proof.Proof.Gen.Kernel
public import proofs.«01_k».proof.Proof.KernelFrame
public import proofs.«01_k».proof.Proof.RefTrip

@[expose] public section

noncomputable section

namespace Cert.Proof

open Idealize.ShloMosaic

/-- The reading of a named constant as the word it replaced, under which the two kernels are the same program. -/
@[reducible] def wordNamed : Named Bits := ⟨fun _ _ {φ} b => Scalar.ofBits φ b⟩

attribute [local instance] wordNamed

set_option maxRecDepth 100000 in
/-- The two kernels' bodies are the same … -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))

set_option maxRecDepth 100000 in
/-- … and so are their launches … -/
theorem launches_eq : Cert.Kernel.defs (F := Bits) = Cert.KernelIdeal.defs (F := Bits) :=
  congrArg (Pipeline.defs (Cert.KernelIdeal.pcfgs (F := Bits))) bodies_eq

set_option maxRecDepth 100000 in
/-- … and their programs. -/
theorem mains_eq : Cert.Kernel.main (F := Bits) = Cert.KernelIdeal.main (F := Bits) := rfl

set_option maxRecDepth 100000 in
/-- The kernel ends, with its arguments unchanged. -/
theorem kernel_runs : quiescent_Kernel := fun m g _ => by
  rw [launches_eq, mains_eq]
  exact Cert.Rvq.frame_quiescent (F := Bits) m g

/-- The kernel over the reals ends, with its arguments unchanged. -/
theorem kernelIdeal_runs : quiescent_KernelIdeal := fun m g _ => Cert.Rvq.frame_quiescent m g

/-- The reference ends, with its arguments unchanged. -/
theorem referenceIdeal_runs : quiescent_ReferenceIdeal := fun m g _ =>
  (θ_run _ _ _).mono (fun r h => ⟨fun c =>
    ⟨(h.1 c _ (by decide)).trans (Cert.Ref.final_vals m c _ rfl _ rfl).1.1,
      (h.1 c _ (by decide)).trans (Cert.Ref.final_vals m c _ rfl _ rfl).1.2⟩, h.2⟩) (Cert.Ref.run m g)

/-- The constant of the loss is the one named for it. -/
theorem preserves : preserves_Kernel_KernelIdeal :=
  IdealRules.named_const.statement Cert.KernelIdeal.κ "loss_scale" .f32 0x328BCF65#32 _ rfl

end Cert.Proof

end
-- ==== Proof.Spec.lean ====
/- Residual vector quantisation of one token, written over the extended reals: the distance of a token to each row of a
   codebook, the first nearest row, the residuals layer by layer, and, for finite data, the squared distance of a token to
   its nearest row. -/
module

public import Idealize.ShloMosaic.PureOps.Ideal
public import Idealize.ShloMosaic.Lib.Pointwise
public import Mathlib.Data.EReal.Operations

@[expose] public section

noncomputable section

open scoped BigOperators

namespace Cert.Vq

open Idealize.ShloMosaic

/-- One token, and one codebook. -/
abbrev Tok : Type := Fin 512 → EReal
abbrev Book : Type := Fin 1024 → Fin 512 → EReal

/-- The constant two of the distance. -/
abbrev two : EReal := Ideal.ofBits .f32 0x40000000#32

/-- The squared distance of a token to row `k`, expanded. -/
def sqd (cb : Book) (r : Tok) (k : Fin 1024) : EReal := ((∑ j, r j * r j) - two * ∑ j, r j * cb k j) + ∑ j, cb k j * cb k j

/-! ## The first minimal place -/

/-- `k` is the first place at which `d` is least. -/
def IsFirst (d : Fin 1024 → EReal) (k : Fin 1024) : Prop := (∀ l, d k ≤ d l) ∧ ∀ l < k, d k < d l

/-- Some column is the first of least distance, -/
theorem exists_first (d : Fin 1024 → EReal) : ∃ k, IsFirst d k := by
  obtain ⟨a, -, ha⟩ := Finset.exists_min_image Finset.univ d ⟨0, Finset.mem_univ _⟩
  have hne : (Finset.univ.filter fun k => ∀ l, d k ≤ d l).Nonempty := ⟨a, by simpa using fun l => ha l (Finset.mem_univ _)⟩
  refine ⟨(Finset.univ.filter fun k => ∀ l, d k ≤ d l).min' hne, ?_, ?_⟩
  · have := Finset.min'_mem _ hne
    simpa using this
  · intro l hl
    by_contra hc
    have hm : ∀ i, d ((Finset.univ.filter fun k => ∀ l, d k ≤ d l).min' hne) ≤ d i := by
      have := Finset.min'_mem _ hne
      simpa using this
    exact absurd (Finset.min'_le _ l (by simpa using fun i => (not_lt.1 hc).trans (hm i))) (not_le.2 hl)

/-- There is only one. -/
theorem IsFirst.unique {d : Fin 1024 → EReal} {k l : Fin 1024} (hk : IsFirst d k) (hl : IsFirst d l) : k = l := by
  rcases lt_trichotomy k l with h | h | h
  · exact absurd (hl.2 k h) (not_lt.2 (hk.1 l))
  · exact h
  · exact absurd (hk.2 l h) (not_lt.2 (hl.1 k))

/-- The first place at which `d` is least. -/
def first (d : Fin 1024 → EReal) : Fin 1024 := Classical.choose (exists_first d)

/-- `first` is it, -/
theorem first_spec (d : Fin 1024 → EReal) : IsFirst d (first d) := Classical.choose_spec (exists_first d)

/-- and nothing else is. -/
theorem first_eq {d : Fin 1024 → EReal} {k : Fin 1024} (h : IsFirst d k) : first d = k := (first_spec d).unique h

/-- The least value is the minimum of all, folded from the top. -/
theorem fold_min_eq (d : Fin 1024 → EReal) : Finset.univ.fold min ⊤ d = d (first d) := by
  apply le_antisymm
  · exact Finset.fold_min_le _ |>.2 (.inr ⟨first d, Finset.mem_univ _, le_rfl⟩)
  · exact Finset.le_fold_min _ |>.2 ⟨le_top, fun l _ => (first_spec d).1 l⟩

/-! ## The layers -/

/-- The row chosen for a token. -/
def pick (cb : Book) (r : Tok) : Fin 1024 := first (sqd cb r)

/-- A token's residual before layer `q`. -/
def resid (C : ℕ → Book) (x : Tok) : ℕ → Tok
  | 0 => x
  | q + 1 => fun j => resid C x q j - C q (pick (C q) (resid C x q)) j

/-- The row chosen at layer `q`, and its elements. -/
def code (C : ℕ → Book) (x : Tok) (q : ℕ) : Fin 1024 := pick (C q) (resid C x q)
/-- The row that layer `q` quantises to. -/
def quant (C : ℕ → Book) (x : Tok) (q : ℕ) : Tok := C q (code C x q)

/-- The next residual is what the row leaves. -/
theorem resid_succ (C : ℕ → Book) (x : Tok) (q : ℕ) (j : Fin 512) : resid C x (q + 1) j = resid C x q j - quant C x q j := rfl

/-- The sum of the first `q` layers, each as its residual and the difference to it. -/
def sum (C : ℕ → Book) (x : Tok) : ℕ → Tok
  | 0 => fun _ => 0
  | q + 1 => fun j => sum C x q j + (resid C x q j + (quant C x q j - resid C x q j))

/-- The least distance at layer `q`. -/
def low (C : ℕ → Book) (x : Tok) (q : ℕ) : EReal := sqd (C q) (resid C x q) (code C x q)

/-! ## Finite data -/

/-- An element that is a real number. -/
abbrev Fin' (x : EReal) : Prop := x ≠ ⊥ ∧ x ≠ ⊤

/-- A difference of finite values is finite. -/
theorem Fin'.sub {x y : EReal} (hx : Fin' x) (hy : Fin' y) : Fin' (x - y) := by
  lift x to ℝ using ⟨hx.2, hx.1⟩
  lift y to ℝ using ⟨hy.2, hy.1⟩
  rw [← EReal.coe_sub]
  exact ⟨EReal.coe_ne_bot _, EReal.coe_ne_top _⟩

/-- Every residual of a finite token over finite codebooks is finite. -/
theorem resid_fin {C : ℕ → Book} {x : Tok} (hC : ∀ q k j, Fin' (C q k j)) (hx : ∀ j, Fin' (x j)) : ∀ q j, Fin' (resid C x q j)
  | 0, j => hx j
  | q + 1, j => (resid_fin hC hx q j).sub (hC _ _ _)

/-- A sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `two` is the number 2. -/
theorem two_eq : two = ((2 : ℝ) : EReal) := by
  simp [Ideal.ofBits, Ideal.ieee, -EReal.coe_mul]
  norm_num

/-- For finite data the least distance is the sum of the squares of the chosen row less the residual. -/
theorem low_eq {C : ℕ → Book} {x : Tok} (hC : ∀ q k j, Fin' (C q k j)) (hx : ∀ j, Fin' (x j)) (q : ℕ) :
    ∃ a : ℝ, low C x q = (a : EReal)
      ∧ ∑ j, (quant C x q j - resid C x q j) * (quant C x q j - resid C x q j) = (a : EReal) := by
  have hr := resid_fin hC hx q
  have hk := hC q (code C x q)
  unfold low quant sqd
  generalize resid C x q = r at hr ⊢
  generalize C q (code C x q) = c at hk ⊢
  lift r to Fin 512 → ℝ using fun j => ⟨(hr j).2, (hr j).1⟩
  lift c to Fin 512 → ℝ using fun j => ⟨(hk j).2, (hk j).1⟩
  refine ⟨∑ j, (c j - r j) * (c j - r j), ?_, ?_⟩
  · rw [two_eq]
    simp only [← EReal.coe_mul, ← coe_sum, ← EReal.coe_sub, ← EReal.coe_add]
    congr 1
    rw [Finset.mul_sum, ← Finset.sum_sub_distrib, ← Finset.sum_add_distrib]
    exact Finset.sum_congr rfl fun j _ => by ring
  · simp only [← EReal.coe_mul, ← coe_sum, ← EReal.coe_sub]

/-! ## The data of the programs -/

abbrev SX : Shape := ⟨3, ![8, 1500, 512]⟩
abbrev SC : Shape := ⟨3, ![8, 1024, 512]⟩

/-- The codebooks by layer. -/
def bk (C : FVec Ideal SC .f32) (q : ℕ) : Book := fun k j => C (ix3 ⟨q % 8, Nat.mod_lt _ (by decide)⟩ k j)
/-- The token of batch row `b` at place `t`. -/
def tk (X : FVec Ideal SX .f32) (b : Fin 8) (t : Fin 1500) : Tok := fun j => X (ix3 b t j)

/-- The least distance of a token at a layer, as a real number. -/
def lowR (C : FVec Ideal SC .f32) (X : FVec Ideal SX .f32) (q : ℕ) (b : Fin 8) (t : Fin 1500) : ℝ := (low (bk C) (tk X b t) q).toReal
/-- The commitment loss: the least distances summed over layers and tokens, scaled. -/
def total (C : FVec Ideal SC .f32) (X : FVec Ideal SX .f32) : ℝ :=
  (∑ q : Fin 8, ∑ b, ∑ t, lowR C X q.val b t) * (13421773 / 824633720832000)

/-- The quantised output: the sums of the layers. -/
def xqG (C : FVec Ideal SC .f32) (X : FVec Ideal SX .f32) : FVec Ideal SX .f32 := fun i => sum (bk C) (tk X (i 0) (i 1)) 8 (i 2)
/-- The chosen rows' numbers, layer by layer. -/
def codesG (C : FVec Ideal SC .f32) (X : FVec Ideal SX .f32) : IVec ⟨3, ![8, 8, 1500]⟩ 32 := fun i =>
  BitVec.ofNat 32 (code (bk C) (tk X (i 1) (i 2)) (i 0).val).val
/-- The chosen rows, layer by layer. -/
def quantsG (C : FVec Ideal SC .f32) (X : FVec Ideal SX .f32) : FVec Ideal ⟨4, ![8, 8, 1500, 512]⟩ .f32 := fun i =>
  quant (bk C) (tk X (i 1) (i 2)) (i 0).val (i 3)
/-- The first layer's distances. -/
def distG (C : FVec Ideal SC .f32) (X : FVec Ideal SX .f32) : FVec Ideal ⟨3, ![8, 1500, 1024]⟩ .f32 := fun i =>
  sqd (bk C 0) (tk X (i 0) (i 1)) (i 2)

section
variable {C : FVec Ideal SC .f32} {X : FVec Ideal SX .f32} (hC : ∀ i, Fin' (C i)) (hX : ∀ i, Fin' (X i))
include hC hX

/-- Of finite arguments the least distance is a real number, -/
theorem low_coe (q : ℕ) (b : Fin 8) (t : Fin 1500) : low (bk C) (tk X b t) q = (lowR C X q b t : EReal) := by
  obtain ⟨a, h, -⟩ := low_eq (C := bk C) (x := tk X b t) (fun _ _ _ => hC _) (fun _ => hX _) q
  rw [lowR, h, EReal.toReal_coe]

/-- and it is the squared length of row minus residual. -/
theorem square_coe (q : ℕ) (b : Fin 8) (t : Fin 1500) :
    ∑ j, (quant (bk C) (tk X b t) q j - resid (bk C) (tk X b t) q j) * (quant (bk C) (tk X b t) q j - resid (bk C) (tk X b t) q j)
      = (lowR C X q b t : EReal) := by
  obtain ⟨a, h, h'⟩ := low_eq (C := bk C) (x := tk X b t) (fun _ _ _ => hC _) (fun _ => hX _) q
  rw [lowR, h, h', EReal.toReal_coe]

end

end Cert.Vq

end
-- ==== Proof.KernelPure.lean ====
/- The kernel's values read at one element, over the extended reals: distances, least distance, chosen row, its one-hot row
   and the product of that with the codebook. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.SortNet.Extract

@[expose] public section

set_option maxRecDepth 16384

noncomputable section

open scoped BigOperators

namespace Cert.Rvq

open Cert.KernelIdeal Cert.KernelIdeal.Gen
open Idealize.ShloMosaic Idealize.ShloMosaic.TcCoe
open Cert.Vq

/-- A codebook block as a codebook, and a row of the residuals as a token. -/
abbrev book (cb : FVec Ideal S1x1024x512 .f32) : Book := fun k j => cb (ix3 0 k j)
abbrev tok (r : FVec Ideal S1500x512 .f32) (i : Fin 1500) : Tok := fun j => r (ix2 i j)

variable (r : FVec Ideal S1500x512 .f32) (cb : FVec Ideal S1x1024x512 .f32)

/-- The word of the infinity that a minimum starts from. -/
theorem top_word : Ideal.ofBits .f32 0x7F800000#32 = ⊤ := by simp [Ideal.ofBits, Ideal.ieee]

/-- The distances. -/
theorem pay5_at (i : Fin 1500) (k : Fin 1024) : k0_pay5 (F := Ideal) r cb (ix2 i k) = sqd (book cb) (tok r i) k := by
  pointwise [k0_pay5, k0_pay4]
  rfl

/-- The least distances. -/
theorem pay7_at (i : Fin 1500) (z : Fin 1) :
    k0_pay7 (F := Ideal) r cb (ix2 i z) = sqd (book cb) (tok r i) (pick (book cb) (tok r i)) := by
  pointwise [k0_pay7]
  simp only [pay5_at, top_word]
  exact fold_min_eq _

/-- The least row number among those a condition holds at, where the others count as 1024, is the first such row. -/
theorem least_word (p : Fin 1024 → Prop) [DecidablePred p] (k : Fin 1024) (hk : p k) (hl : ∀ l < k, ¬ p l) :
    Finset.univ.fold IntOp.minsi (2147483647#32) (fun x : Fin 1024 => if p x then BitVec.ofNat 32 x.val else 1024#32)
      = BitVec.ofNat 32 k.val := by
  have hw : ∀ x : Fin 1024, (BitVec.ofNat 32 x.val).toInt = (x.val : ℤ) := fun x =>
    WordCmp.toInt_ofNat_of_lt (by have := x.isLt; omega)
  apply BitVec.eq_of_toInt_eq
  rw [← Finset.fold_hom (op' := (min : ℤ → ℤ → ℤ)) (m := BitVec.toInt) SortNet.toInt_minsi, hw]
  apply le_antisymm
  · exact Finset.fold_min_le _ |>.2 (.inr ⟨k, Finset.mem_univ _, by rw [if_pos hk, hw]⟩)
  · refine Finset.le_fold_min _ |>.2 ⟨?_, fun x _ => ?_⟩
    · have := k.isLt
      show (k.val : ℤ) ≤ 2147483647
      omega
    · by_cases hx : p x
      · rw [if_pos hx, hw]
        exact_mod_cast not_lt.1 fun h => hl x h hx
      · rw [if_neg hx]
        have := k.isLt
        show (k.val : ℤ) ≤ 1024
        omega

/-- The number of the row chosen. -/
theorem pay8_at (i : Fin 1500) : k0_pay8 (F := Ideal) r cb (ix1 i) = BitVec.ofNat 32 (pick (book cb) (tok r i)).val := by
  pointwise [k0_pay8]
  simp only [pay5_at, pay7_at]
  have hf := first_spec (sqd (book cb) (tok r i))
  exact least_word _ _ rfl fun l hl he => absurd (hf.2 l hl) (by rw [he]; exact lt_irrefl _)

/-- The one-hot row of the choice. -/
theorem pay10_at (i : Fin 1500) (k : Fin 1024) :
    k0_pay10 (F := Ideal) r cb (ix2 i k) = BitVec.ofBool (decide (k = pick (book cb) (tok r i))) := by
  pointwise [k0_pay10]
  rw [pay8_at]
  have h1 := k.isLt
  have h2 := (pick (book cb) (tok r i)).isLt
  rw [WordCmp.cmpi_eq_ofNat (by omega) (by omega)]
  simp only [Fin.ext_iff]

/-- A one-hot row as numbers. -/
theorem hot_at (a k : Fin 1024) :
    FloatOps.sitofp (F := Ideal) FTy.f32 (BitVec.setWidth 32 (BitVec.ofBool (decide (a = k)))) = if a = k then 1 else 0 := by
  show (((BitVec.setWidth 32 (BitVec.ofBool (decide (a = k)))).toInt : ℝ) : EReal) = _
  by_cases h : a = k <;> simp [h]

/-- The one-hot product picks the codebook's row: the two remainders of a finite element are nought. -/
theorem pay11_at (c : FVec Ideal S1024x512 .f32) (w : IVec S1500x1024 1) (i : Fin 1500) (j : Fin 512) (k : Fin 1024)
    (hw : ∀ a, w (ix2 i a) = BitVec.ofBool (decide (a = k))) (hc : Fin' (c (ix2 k j))) :
    k0_pay11 (F := Ideal) c w (ix2 i j) = c (ix2 k j) := by
  have hz : c (ix2 k j) - c (ix2 k j) = (0 : EReal) := EReal.sub_self hc.2 hc.1
  pointwise [k0_pay11]
  simp only [hw, hot_at, ite_mul, one_mul, zero_mul, Finset.sum_ite_eq', Finset.sum_ite_eq, Finset.mem_univ, if_true, hz]
  simp

/-- The point's part of the loss. -/
theorem pay16_at (v : FVec Ideal S1500x1 .f32) (a b : Fin 1) :
    k0_pay16 (F := Ideal) v (ix2 a b) = (∑ i : Fin 1500, v (ix2 i 0)) * Named.named κ "loss_scale" 848023397#32 := by
  pointwise [k0_pay16]
  simp

end Cert.Rvq

end
-- ==== Proof.KernelVals.lean ====
/- What the kernel carries, point by point, over the extended reals: the residuals, sums, distances and loss of the spec. -/
module

public import proofs.«01_k».proof.Proof.KernelPure
public import proofs.«01_k».proof.Proof.KernelFrame
public import Idealize.ShloMosaic.Lib.Pipeline.ValueKit

@[expose] public section

set_option maxRecDepth 16384

noncomputable section

open scoped BigOperators

namespace Cert.Rvq

open Cert.KernelIdeal Cert.KernelIdeal.Gen
open Idealize.ShloMosaic Idealize.ShloMosaic.TcCoe
open Cert.Vq

/-! ## One point -/

section Point

variable {r : FVec Ideal S1500x512 .f32} {cb : FVec Ideal S1x1024x512 .f32} {B : ℕ → Book} {T : Fin 1500 → Tok} {q : ℕ}
  (hb : book cb = B q) (hr : ∀ i, tok r i = resid B (T i) q) (hB : ∀ q k j, Fin' (B q k j))
include hb hr

/-- The row chosen by a point is the spec's. -/
theorem code_of (i : Fin 1500) : pick (book cb) (tok r i) = code B (T i) q := by rw [hb, hr]; rfl

/-- The block of codes written. -/
theorem codes_at (i : Fin 1500) (a b c : Fin 1) : k0_pay9 (F := Ideal) r cb (ix4 a b c i) = BitVec.ofNat 32 (code B (T i) q).val := by
  pointwise [k0_pay9]
  rw [pay8_at, code_of hb hr]

/-- The least distances. -/
theorem low_at (i : Fin 1500) (z : Fin 1) : k0_pay7 (F := Ideal) r cb (ix2 i z) = low B (T i) q := by
  rw [pay7_at, code_of hb hr, hb, hr]; rfl

/-- The block of distances written. -/
theorem sqd_at (i : Fin 1500) (k : Fin 1024) (z : Fin 1) : k0_pay6 (F := Ideal) r cb (ix3 z i k) = sqd (B q) (resid B (T i) q) k := by
  pointwise [k0_pay6]
  rw [pay5_at, hb, hr]

include hB

/-- The rows taken, -/
theorem quant_at (i : Fin 1500) (j : Fin 512) : k0_pay11 (F := Ideal) (k0_pay4 cb) (k0_pay10 (F := Ideal) r cb) (ix2 i j) = quant B (T i) q j := by
  have e : ∀ k j, k0_pay4 (F := Ideal) cb (ix2 k j) = B q k j := fun k j => by
    rw [← hb]
    pointwise [k0_pay4]
  rw [pay11_at _ _ i j (code B (T i) q) (fun a => by rw [pay10_at, code_of hb hr]) (by rw [e]; exact hB _ _ _), e]
  rfl

/-- and the block of them written. -/
theorem quants_at (i : Fin 1500) (j : Fin 512) (a b : Fin 1) :
    k0_pay12 (F := Ideal) (k0_pay4 cb) (k0_pay10 (F := Ideal) r cb) (ix4 a b i j) = quant B (T i) q j := by
  pointwise [k0_pay12]
  rw [quant_at hb hr hB]

/-- The residual left in scratch. -/
theorem nextRes_at (i : Fin 1500) (j : Fin 512) : nextRes (F := Ideal) r cb (ix2 i j) = resid B (T i) (q + 1) j := by
  have h := congrFun (hr i) j
  pointwise [nextRes, k0_pay2]
  rw [quant_at hb hr hB, resid_succ, ← h]

/-- The block of sums: written at the first layer, -/
theorem sum_first (i : Fin 1500) (j : Fin 512) (z : Fin 1) : k0_pay14 (F := Ideal) r (k0_pay4 cb) (k0_pay10 (F := Ideal) r cb) (ix3 z i j)
    = resid B (T i) q j + (quant B (T i) q j - resid B (T i) q j) := by
  have h := congrFun (hr i) j
  pointwise [k0_pay14, k0_pay13]
  rw [quant_at hb hr hB, ← h]

/-- added to at the later ones. -/
theorem sum_next (p : FVec Ideal S1x1500x512 .f32) (i : Fin 1500) (j : Fin 512) (z : Fin 1) (hp : p (ix3 0 i j) = sum B (T i) q j) :
    k0_pay15 (F := Ideal) r (k0_pay4 cb) (k0_pay10 (F := Ideal) r cb) p (ix3 z i j) = sum B (T i) (q + 1) j := by
  have h := congrFun (hr i) j
  pointwise [k0_pay15, k0_pay13]
  rw [quant_at hb hr hB, hp]
  show _ = sum B (T i) q j + (resid B (T i) q j + (quant B (T i) q j - resid B (T i) q j))
  rw [← h]

end Point

/-! ## The blocks -/

/-- Which blocks a point works on. -/
theorem idx : ∀ t : Fin cfg0.N, win0_0.index t = ![t.val / 8, 0, 0] ∧ win0_1.index t = ![t.val % 8, 0, 0] ∧ win0_2.index t = ![t.val / 8, 0, 0]
    ∧ win0_3.index t = ![t.val % 8, t.val / 8, 0, 0] ∧ win0_4.index t = ![0, 0] ∧ win0_5.index t = ![t.val % 8, t.val / 8, 0, 0]
    ∧ win0_6.index t = ![t.val / 8, 0, 0] :=
  (by decide +kernel : ∀ t : Fin grid0.N, win0_0.index t = ![t.val / 8, 0, 0] ∧ win0_1.index t = ![t.val % 8, 0, 0] ∧ win0_2.index t = ![t.val / 8, 0, 0]
    ∧ win0_3.index t = ![t.val % 8, t.val / 8, 0, 0] ∧ win0_4.index t = ![0, 0] ∧ win0_5.index t = ![t.val % 8, t.val / 8, 0, 0]
    ∧ win0_6.index t = ![t.val / 8, 0, 0])

variable (m : (ℓ : Loc nD τ sig) → Buf (Elt Ideal) ℓ) (c : Dev nD)

/-- The tokens and the codebooks. -/
abbrev argX : FVec Ideal SX .f32 := m ((c : Thread nD τ).loc main_arg0)
abbrev argC : FVec Ideal SC .f32 := m ((c : Thread nD τ).loc main_arg1)

/-- The batch row of point `n`. -/
abbrev row (n : ℕ) : Fin 8 := ⟨n / 8 % 8, Nat.mod_lt _ (by decide)⟩

/-- The tokens of a point, -/
theorem token_block (t : Fin cfg0.N) (i : Fin 1500) (j : Fin 512) (z : Fin 1) :
    (show FVec Ideal S1x1500x512 .f32 from iblk m c 0 t) (ix3 z i j) = argX m c (ix3 (row t.val) i j) := by
  have ht : t.val < 64 := t.isLt.trans_eq N_0
  blk_ext [iblk, V, idx t]

/-- and its codebook. -/
theorem book_block (t : Fin cfg0.N) (k : Fin 1024) (j : Fin 512) (z : Fin 1) :
    (show FVec Ideal S1x1024x512 .f32 from iblk m c 1 t) (ix3 z k j) = argC m c (ix3 ⟨t.val % 8, Nat.mod_lt _ (by decide)⟩ k j) := by
  have ht : t.val < 64 := t.isLt.trans_eq N_0
  blk_ext [iblk, V, idx t]

/-! ## The carried contents -/

/-- The loss's scale. -/
theorem scale_eq : Named.named (F := Ideal) (φ := .f32) κ "loss_scale" 848023397#32 = ((13421773 / 824633720832000 : ℝ) : EReal) :=
  IdealRules.named_const.ideal_named_scalar _ _ _ _ rfl

/-- What point `n` adds to the loss. -/
def part (n : ℕ) : ℝ := (∑ i, lowR (argC m c) (argX m c) (n % 8) (row n) i) * (13421773 / 824633720832000)

section State

/-- A point's codebook. -/
theorem book_at (n : ℕ) : book (iblk m c 1 (pt n)) = bk (argC m c) (n % 8) := by
  funext k j
  refine (book_block m c (pt n) k j 0).trans (congrArg (fun q => argC m c (ix3 q k j)) (Fin.ext ?_))
  show n % 64 % 8 = n % 8 % 8
  omega

/-- A point's residuals, once those the point before left are known. -/
theorem start_at (n : ℕ) (hn : n < 64) (p : FVec Ideal S1500x512 .f32)
    (hp : n % 8 ≠ 0 → ∀ i j, p (ix2 i j) = resid (bk (argC m c)) (tk (argX m c) (row n) i) (n % 8) j) (i : Fin 1500) :
    tok (resAt m c n p) i = resid (bk (argC m c)) (tk (argX m c) (row n) i) (n % 8) := by
  funext j
  unfold resAt startRes
  split
  · next h =>
    have e : (pt n).val = n := Nat.mod_eq_of_lt hn
    have hb := token_block m c (pt n) i j 0
    simp only [e] at hb
    rw [h]
    refine Eq.trans ?_ hb
    show k0_pay3 _ (ix2 i j) = _
    pointwise [k0_pay3]
  · next h => exact hp h i j

variable (hC : ∀ i, Fin' (argC m c i)) (hX : ∀ i, Fin' (argX m c i))
include hC hX

/-- What a point adds to the loss. -/
theorem part_at (n : ℕ) (r : FVec Ideal S1500x512 .f32) (cb : FVec Ideal S1x1024x512 .f32) (hb : book cb = bk (argC m c) (n % 8))
    (hr : ∀ i, tok r i = resid (bk (argC m c)) (tk (argX m c) (row n) i) (n % 8)) (a b : Fin 1) :
    k0_pay16 (F := Ideal) (k0_pay7 r cb) (ix2 a b) = (part m c n : EReal) := by
  rw [pay16_at, scale_eq, part, EReal.coe_mul, coe_sum]
  exact congrArg (· * (((13421773 / 824633720832000 : ℝ)) : EReal))
    (Finset.sum_congr rfl fun i _ => (low_at hb hr i 0).trans (low_coe hC hX _ _ _))

/-- The contents after point `n`. -/
theorem after_at : ∀ n, n < 64 →
    (∀ i j, (st m c (n + 1)).res (ix2 i j) = resid (bk (argC m c)) (tk (argX m c) (row n) i) (n % 8 + 1) j)
    ∧ (∀ i j z, (st m c (n + 1)).xq (ix3 z i j) = sum (bk (argC m c)) (tk (argX m c) (row n) i) (n % 8 + 1) j)
    ∧ (∀ i k z, (st m c (n + 1)).dist (ix3 z i k) = sqd (bk (argC m c) 0) (tk (argX m c) (row n) i) k)
    ∧ (∀ a b, (st m c (n + 1)).loss (ix2 a b) = ((∑ k ∈ Finset.range (n + 1), part m c k : ℝ) : EReal)) := by
  have hB : ∀ q k j, Fin' (bk (argC m c) q k j) := fun _ _ _ => hC _
  intro n
  induction n with
  | zero =>
    intro hn
    have hb := book_at m c 0
    have hr := start_at m c 0 hn (st m c 0).res (fun h => absurd rfl h)
    refine ⟨fun i j => nextRes_at hb hr hB i j, fun i j z => ?_, fun i k z => ?_, fun a b => ?_⟩
    · refine (sum_first hb hr hB i j z).trans ?_
      exact (zero_add _).symm
    · exact sqd_at hb hr i k z
    · refine (part_at m c hC hX 0 _ _ hb hr a b).trans ?_
      simp
  | succ n ih =>
    intro hn
    obtain ⟨i1, i2, i3, i4⟩ := ih (by omega)
    have hrow : (n + 1) % 8 ≠ 0 → row n = row (n + 1) := fun h => Fin.ext (by show n / 8 % 8 = (n + 1) / 8 % 8; omega)
    have hmod : (n + 1) % 8 ≠ 0 → n % 8 + 1 = (n + 1) % 8 := fun h => by omega
    have hb := book_at m c (n + 1)
    have hr := start_at m c (n + 1) hn (st m c (n + 1)).res (fun h i j => by rw [i1, hrow h, hmod h])
    refine ⟨fun i j => nextRes_at hb hr hB i j, fun i j z => ?_, fun i k z => ?_, fun a b => ?_⟩
    · show nextXq ((n + 1) % 8 = 0) _ _ _ (ix3 z i j) = _
      unfold nextXq
      split
      · next h =>
        refine (sum_first hb hr hB i j z).trans ?_
        rw [h]
        exact (zero_add _).symm
      · next h => exact sum_next hb hr hB _ i j z (by rw [i2, hrow h, hmod h])
    · show nextDist ((n + 1) % 8 = 0) _ _ _ (ix3 z i k) = _
      unfold nextDist
      split
      · next h =>
        refine (sqd_at hb hr i k z).trans ?_
        rw [h]; rfl
      · next h => rw [i3, hrow h]
    · show nextLoss (n + 1 = 0) _ _ _ (ix2 a b) = _
      unfold nextLoss
      rw [if_neg (Nat.succ_ne_zero n)]
      have h1 := part_at m c hC hX (n + 1) _ _ hb hr a b
      pointwise [k0_pay1]
      rw [Finset.sum_range_succ, EReal.coe_add]
      exact congrArg₂ (· + ·) (i4 a b) h1

end State

end Cert.Rvq

end
-- ==== Proof.KernelArrays.lean ====
/- The kernel's result arrays, over the extended reals and for finite arguments. -/
module

public import proofs.«01_k».proof.Proof.KernelVals

@[expose] public section

set_option maxRecDepth 16384

noncomputable section

open scoped BigOperators

namespace Cert.Rvq

open Cert.KernelIdeal Cert.KernelIdeal.Gen
open Idealize.ShloMosaic Idealize.ShloMosaic.TcCoe
open Cert.Vq

variable (m : (ℓ : Loc nD τ sig) → Buf (Elt Ideal) ℓ) (c : Dev nD)

/-- The sum and the distances are written back at the last codebook of each batch row, the loss at the last point. -/
theorem flushes : ∀ t : Fin cfg0.N, ((cfg0.win 2).flush t = true → t.val % 8 = 7) ∧ ((cfg0.win 4).flush t = true → t.val = 63) :=
  (by decide +kernel : ∀ t : Fin grid0.N, ((cfg0.win 2).flush t = true → t.val % 8 = 7) ∧ ((cfg0.win 4).flush t = true → t.val = 63))

/-- The points' shares of the loss add up to the whole of it. -/
theorem parts_total : ∑ k ∈ Finset.range 64, part m c k = total (argC m c) (argX m c) := by
  rw [← Fin.sum_univ_eq_sum_range (fun k => part m c k) 64, Fin.sum_univ_tiles 8 8 rfl, total, Finset.sum_comm, Finset.sum_mul]
  refine Finset.sum_congr rfl fun q _ => ?_
  rw [Finset.sum_mul]
  refine Finset.sum_congr rfl fun b _ => ?_
  have hb := b.isLt
  have hq := q.isLt
  have e1 : (b.val * 8 + q.val) % 8 = q.val := by omega
  have e2 : row (b.val * 8 + q.val) = b := Fin.ext (by show (b.val * 8 + q.val) / 8 % 8 = b.val; omega)
  show part m c (b.val * 8 + q.val) = _
  rw [part, e1, e2]

section Finite

variable (hC : ∀ i, Fin' (argC m c i)) (hX : ∀ i, Fin' (argX m c i))

/-- The residuals every point starts from. -/
theorem resOf_at (hC : ∀ i, Fin' (argC m c i)) (hX : ∀ i, Fin' (argX m c i)) (n : ℕ) (hn : n < 64) (i : Fin 1500) :
    tok (resOf m c n) i = resid (bk (argC m c)) (tk (argX m c) (row n) i) (n % 8) := by
  refine start_at m c n hn _ (fun h i j => ?_) i
  obtain ⟨k, rfl⟩ := Nat.exists_eq_succ_of_ne_zero (show n ≠ 0 by rintro rfl; exact h rfl)
  have hrow : row k = row (k + 1) := Fin.ext (by show k / 8 % 8 = (k + 1) / 8 % 8; omega)
  have hmod : k % 8 + 1 = (k + 1) % 8 := by omega
  rw [(after_at m c hC hX k (by omega)).1 i j, hrow, hmod]

include hC hX

/-- The array of the quantised output. -/
theorem array_2 : (dats m 0 c).arrAt 2 (cfgs 0).N = xqG (argC m c) (argX m c) := by
  refine (dats m 0 c).arrAt_eq_of_covers 2 _ (by decide +kernel) fun t hf y => ?_
  have ht : t.val < 64 := t.isLt.trans_eq N_0
  have h7 := (flushes t).1 hf
  blk_simp
  rw [after_2]
  obtain ⟨z, i, j, rfl⟩ : ∃ (z : Fin 1) (i : Fin 1500) (j : Fin 512), y = ix3 z i j := ⟨y 0, y 1, y 2, by idx_ext⟩
  have e : (win0_2.blk t).view.emb (ix3 z i j) = ix3 (row t.val) i j := by blk_ext [idx t]
  rw [e]
  refine ((after_at m c hC hX t.val ht).2.1 i j z).trans ?_
  rw [h7]; rfl

/-- The array of the first layer's distances. -/
theorem array_6 : (dats m 0 c).arrAt 6 (cfgs 0).N = distG (argC m c) (argX m c) := by
  refine (dats m 0 c).arrAt_eq_of_covers 6 _ (by decide +kernel) fun t hf y => ?_
  have ht : t.val < 64 := t.isLt.trans_eq N_0
  blk_simp
  rw [after_6]
  obtain ⟨z, i, k, rfl⟩ : ∃ (z : Fin 1) (i : Fin 1500) (k : Fin 1024), y = ix3 z i k := ⟨y 0, y 1, y 2, by idx_ext⟩
  have e : (win0_6.blk t).view.emb (ix3 z i k) = ix3 (row t.val) i k := by blk_ext [idx t]
  rw [e]
  exact (after_at m c hC hX t.val ht).2.2.1 i k z

/-- The array of the codes. -/
theorem array_3 : (dats m 0 c).arrAt 3 (cfgs 0).N = fun i : S8x8x1x1500.Idx => codesG (argC m c) (argX m c) (ix3 (i 0) (i 1) (i 3)) := by
  refine (dats m 0 c).arrAt_eq_of_covers 3 _ (by decide +kernel) fun t hf y => ?_
  have ht : t.val < 64 := t.isLt.trans_eq N_0
  blk_simp
  rw [after_3]
  obtain ⟨a, b, z, i, rfl⟩ : ∃ (a b z : Fin 1) (i : Fin 1500), y = ix4 a b z i := ⟨y 0, y 1, y 2, y 3, by idx_ext⟩
  have e : (win0_3.blk t).view.emb (ix4 a b z i) = ix4 (⟨t.val % 8, Nat.mod_lt _ (by decide)⟩ : Fin 8) (row t.val) (0 : Fin 1) i := by blk_ext [idx t]
  rw [e]
  have hb := book_at m c t.val
  rw [pt_val] at hb
  exact codes_at hb (resOf_at m c hC hX t.val ht) i a b z

/-- The array of the rows. -/
theorem array_5 : (dats m 0 c).arrAt 5 (cfgs 0).N = quantsG (argC m c) (argX m c) := by
  refine (dats m 0 c).arrAt_eq_of_covers 5 _ (by decide +kernel) fun t hf y => ?_
  have ht : t.val < 64 := t.isLt.trans_eq N_0
  blk_simp
  rw [after_5]
  obtain ⟨a, b, i, j, rfl⟩ : ∃ (a b : Fin 1) (i : Fin 1500) (j : Fin 512), y = ix4 a b i j := ⟨y 0, y 1, y 2, y 3, by idx_ext⟩
  have e : (win0_5.blk t).view.emb (ix4 a b i j) = ix4 (⟨t.val % 8, Nat.mod_lt _ (by decide)⟩ : Fin 8) (row t.val) i j := by blk_ext [idx t]
  rw [e]
  have hb := book_at m c t.val
  rw [pt_val] at hb
  exact quants_at hb (resOf_at m c hC hX t.val ht) (fun _ _ _ => hC _) i j a b

/-- The array of the loss. -/
theorem array_4 : (dats m 0 c).arrAt 4 (cfgs 0).N = fun _ : S1x1.Idx => (total (argC m c) (argX m c) : EReal) := by
  refine (dats m 0 c).arrAt_eq_of_covers 4 _ (by decide +kernel) fun t hf y => ?_
  have ht : t.val < 64 := t.isLt.trans_eq N_0
  have h63 := (flushes t).2 hf
  blk_simp
  rw [after_4]
  obtain ⟨a, b, rfl⟩ : ∃ (a b : Fin 1), y = ix2 a b := ⟨y 0, y 1, by idx_ext⟩
  refine ((after_at m c hC hX t.val ht).2.2.2 a b).trans ?_
  rw [h63, parts_total]

end Finite

end Cert.Rvq

end
-- ==== Proof.KernelEnd.lean ====
/- How the idealized kernel ends: the five results after the host's reshapes. -/
module

public import proofs.«01_k».proof.Proof.KernelArrays
public import proofs.«01_k».proof.Proof.KernelFrame

@[expose] public section

set_option maxRecDepth 16384

noncomputable section

namespace Cert.Rvq

open Cert.KernelIdeal Cert.KernelIdeal.Gen
open Idealize.ShloMosaic Idealize.ShloMosaic.TcCoe
open Idealize.ShloMosaic.Pipeline (Dat)
open Cert.Vq

variable (m : (ℓ : Loc nD τ sig) → Buf (Elt Ideal) ℓ) (ρ : Dev nD → PrngReg)

/-- The host's first reshape drops the unit axis of the row numbers; -/
theorem tail_codes (c : Dev nD) : Pipeline.afterTail₀ cfgs (dats m) 0 (V0 m) [hostOps1] c main_v0_1
    = shapeCast S8x8x1500 ((dats m 0 c).arrAt 3 (cfgs 0).N : IVec S8x8x1x1500 32) shapeCasts_S8x8x1x1500_S8x8x1500 :=
  congrArg (fun v : IVec S8x8x1x1500 32 => shapeCast S8x8x1500 v shapeCasts_S8x8x1x1500_S8x8x1500)
    (Pipeline.withArrays_arr spec0 launch0.win.arr_inj c (V0 m c) (fun w => (dats m 0 c).arrAt w (cfgs 0).N) 3)

/-- the second makes the loss a scalar. -/
theorem tail_loss (c : Dev nD) : Pipeline.afterTail₀ cfgs (dats m) 0 (V0 m) [hostOps1] c main_v0_2
    = shapeCast S_ ((dats m 0 c).arrAt 4 (cfgs 0).N : FVec Ideal S1x1 .f32) shapeCasts_S1x1_S_ :=
  congrArg (fun v : FVec Ideal S1x1 .f32 => shapeCast S_ v shapeCasts_S1x1_S_)
    (Pipeline.withArrays_arr spec0 launch0.win.arr_inj c (V0 m c) (fun w => (dats m 0 c).arrAt w (cfgs 0).N) 4)

/-- An array with a unit axis put in, and dropped again. -/
theorem drop_axis (g : IVec S8x8x1500 32) :
    shapeCast S8x8x1500 (fun i : S8x8x1x1500.Idx => g (ix3 (i 0) (i 1) (i 3))) shapeCasts_S8x8x1x1500_S8x8x1500 = g := by
  have h : ∀ (f : IVec S8x8x1x1500 32) (p b : Fin 8) (t : Fin 1500),
      shapeCast S8x8x1500 f shapeCasts_S8x8x1x1500_S8x8x1500 (ix3 p b t) = f (ix4 p b 0 t) := fun f p b t => by
    pointwise
  funext i
  obtain ⟨p, b, t, rfl⟩ : ∃ (p b : Fin 8) (t : Fin 1500), i = ix3 p b t := ⟨i 0, i 1, i 2, by idx_ext⟩
  exact h _ p b t

/-- With finite arguments every run ends with the five results of the spec, the arguments unchanged. -/
theorem results (hC : ∀ c i, Fin' (argC m c i)) (hX : ∀ c i, Fin' (argX m c i)) :
    θ_run defs (onTc (τ := τ) (main (F := Ideal))) ⟨m, fun _ => 0, ρ⟩ (fun r => ∀ c : Dev nD,
      r.2.mem ((c.tc : Thread nD τ).loc main_v0_0) = xqG (argC m c) (argX m c)
      ∧ r.2.mem ((c.tc : Thread nD τ).loc main_v0_1) = codesG (argC m c) (argX m c)
      ∧ r.2.mem ((c.tc : Thread nD τ).loc main_v0_2) = (fun _ => (total (argC m c) (argX m c) : EReal))
      ∧ r.2.mem ((c.tc : Thread nD τ).loc main_v0_3) = quantsG (argC m c) (argX m c)
      ∧ r.2.mem ((c.tc : Thread nD τ).loc main_v0_4) = distG (argC m c) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (launch m ρ) (frame_quiescent m ρ))
  obtain ⟨⟨h, -⟩, ha, -⟩ := h
  refine ⟨((h c).1 2).trans (array_2 m c (hC c) (hX c)), ?_, ?_, ((h c).1 5).trans (array_5 m c (hC c) (hX c)),
    ((h c).1 6).trans (array_6 m c (hC c) (hX c)), ha c⟩
  · refine (((h c).2 main_v0_1 (by decide)).trans (tail_codes m c)).trans ?_
    rw [array_3 m c (hC c) (hX c)]
    exact drop_axis _
  · refine (((h c).2 main_v0_2 (by decide)).trans (tail_loss m c)).trans ?_
    rw [array_4 m c (hC c) (hX c)]
    rfl

end Cert.Rvq

end
-- ==== Proof.RefPure.lean ====
/- The reference's tensor functions read at one element, over the extended reals. -/
module

public import proofs.«01_k».proof.Proof.RefTrip
public import proofs.«01_k».proof.Proof.Spec
public import Idealize.ShloMosaic.Lib.Pointwise
public import Idealize.ShloMosaic.Lib.WordCmp
public import Idealize.ShloMosaic.Lib.Routing.Ops
public import Idealize.ShloMosaic.PureOps.Ideal.Laws

@[expose] public section

set_option maxRecDepth 16384

noncomputable section

open scoped BigOperators

namespace Cert.Ref

open Cert.ReferenceIdeal Cert.ReferenceIdeal.Gen
open Idealize.ShloMosaic Idealize.ShloMosaic.TcCoe
open Cert.Vq

/-- A codebook as its rows, and a row of the residuals as a token. -/
abbrev book (cb : FVec Ideal S1024x512 .f32) : Book := fun k j => cb (ix2 k j)
abbrev tok (r : FVec Ideal S12000x512 .f32) (i : Fin 12000) : Tok := fun j => r (ix2 i j)

variable (R : FVec Ideal S12000x512 .f32) (cb : FVec Ideal S1024x512 .f32)

/-- The reference's distances are the spec's. -/
theorem distT_at (i : Fin 12000) (k : Fin 1024) : distT (F := Ideal) cb R (ix2 i k) = sqd (book cb) (tok R i) k := by
  pointwise [distT]
  rfl

/-! ## The arg-min -/

/-- A pair's place in the order the arg-min keeps the least of. -/
def key (p : EReal × BitVec 32) : EReal ×ₗ ℤ := toLex (p.1, p.2.toInt)

/-- The reducer keeps the pair first in that order. -/
theorem reducer_eq (a b : EReal × BitVec 32) : reducer_argmin_f32_i32 (F := Ideal) a b = if key a < key b then a else b := by
  obtain ⟨a1, a2⟩ := a
  obtain ⟨b1, b2⟩ := b
  have hk : key (a1, a2) < key (b1, b2) ↔ a1 < b1 ∨ a1 = b1 ∧ a2.toInt < b2.toInt := Prod.Lex.toLex_lt_toLex
  have h2 : IntOp.cmpi .slt a2 b2 = BitVec.ofBool (decide (a2.toInt < b2.toInt)) := rfl
  have e : ∀ x y : EReal, Ideal.cmp .olt x y = BitVec.ofBool (decide (x < y)) := fun _ _ => rfl
  unfold reducer_argmin_f32_i32
  simp only [Ideal.cmpf_def, h2, hk]
  rcases lt_trichotomy a1 b1 with h | h | h
  · have : ¬ b1 < a1 := not_lt.2 h.le
    simp [Ideal.cmp, IntOp.ori, IntOp.andi, Scalar.select, h, h.ne]
  · subst h
    by_cases h' : a2.toInt < b2.toInt <;> simp [Ideal.cmp, IntOp.ori, IntOp.andi, Scalar.select, h']
  · have : ¬ a1 < b1 := not_lt.2 h.le
    simp [Ideal.cmp, IntOp.ori, IntOp.andi, Scalar.select, h.ne', this]

/-- Keeping the lesser of two pairs along a list leaves one of the pairs that comes first in the order. -/
theorem foldl_least (f : EReal × BitVec 32 → EReal × BitVec 32 → EReal × BitVec 32) (hf : ∀ a b, f a b = if key a < key b then a else b) :
    ∀ (l : List (EReal × BitVec 32)) (a : EReal × BitVec 32),
      l.foldl f a ∈ a :: l ∧ ∀ x ∈ a :: l, key (l.foldl f a) ≤ key x
  | [], a => ⟨by simp, by simp⟩
  | b :: l, a => by
    obtain ⟨h1, h2⟩ := foldl_least f hf l (f a b)
    have hm : f a b = a ∨ f a b = b := by rw [hf]; split <;> simp
    have ha : key (f a b) ≤ key a ∧ key (f a b) ≤ key b := by
      rw [hf]; split
      · exact ⟨le_rfl, le_of_lt ‹_›⟩
      · exact ⟨not_lt.1 ‹_›, le_rfl⟩
    have h0 := h2 _ (List.mem_cons_self ..)
    refine ⟨?_, ?_⟩
    · rw [List.foldl_cons]
      rcases List.mem_cons.1 h1 with h | h
      · rw [h]; rcases hm with h | h <;> rw [h] <;> simp
      · simp [h]
    · intro x hx
      rw [List.foldl_cons]
      rcases List.mem_cons.1 hx with rfl | hx
      · exact h0.trans ha.1
      rcases List.mem_cons.1 hx with rfl | hx
      · exact h0.trans ha.2
      exact h2 _ (List.mem_cons_of_mem _ hx)

/-- Over the pairs of a row's elements with their numbers, in any order, that is the first least element's number. -/
theorem foldl_first (d : Fin 1024 → EReal) (l : List (EReal × BitVec 32)) (hmem : ∀ p, p ∈ l ↔ ∃ k : Fin 1024, p = (d k, BitVec.ofNat 32 k.val)) :
    (l.foldl (reducer_argmin_f32_i32 (F := Ideal)) (⊤, 0#32)).2 = BitVec.ofNat 32 (first d).val := by
  have hw : ∀ x : Fin 1024, (BitVec.ofNat 32 x.val).toInt = (x.val : ℤ) := fun x =>
    WordCmp.toInt_ofNat_of_lt (by have := x.isLt; omega)
  obtain ⟨h1, h2⟩ := foldl_least (reducer_argmin_f32_i32 (F := Ideal)) reducer_eq l (⊤, 0#32)
  generalize List.foldl _ _ _ = p at h1 h2 ⊢
  have hle : ∀ k : Fin 1024, key p ≤ key (d k, BitVec.ofNat 32 k.val) := fun k =>
    h2 _ (List.mem_cons_of_mem _ ((hmem _).2 ⟨k, rfl⟩))
  have hp : ∃ k : Fin 1024, p = (d k, BitVec.ofNat 32 k.val) := by
    rcases List.mem_cons.1 h1 with rfl | h
    · refine ⟨0, ?_⟩
      have := hle 0
      rw [key, key, Prod.Lex.toLex_le_toLex] at this
      have : d 0 = ⊤ := by
        rcases this with h | h
        · exact absurd h not_top_lt
        · exact h.1.symm
      rw [this]; rfl
    · exact (hmem _).1 h
  obtain ⟨k, rfl⟩ := hp
  show BitVec.ofNat 32 k.val = _
  have hc : ∀ l : Fin 1024, d k < d l ∨ d k = d l ∧ k ≤ l := fun l => by
    have := hle l
    rw [key, key, Prod.Lex.toLex_le_toLex] at this
    simp only [hw] at this
    exact this.imp_right fun h => ⟨h.1, by exact_mod_cast h.2⟩
  rw [first_eq (k := k)]
  exact ⟨fun l => (hc l).elim le_of_lt fun h => le_of_eq h.1, fun l hl => (hc l).resolve_right fun h => absurd h.2 (not_le.2 hl)⟩

/-- The pairs a reduction of the rows of a rectangle runs over at row `n`, with the column numbers beside the elements. -/
theorem mem_fiber {a b : ℕ} (d : FVec Ideal ⟨2, ![a, b]⟩ .f32) (h : (⟨2, ![a, b]⟩ : Shape).ReducesTo [1] ⟨1, ![a]⟩) (n : Fin a) (p : EReal × BitVec 32) :
    p ∈ Host.argReduceFiber d (iotaInDim ⟨2, ![a, b]⟩ 32 1) h (ix1 n) ↔ ∃ k : Fin b, p = (d (ix2 n k), BitVec.ofNat 32 k.val) := by
  unfold Host.argReduceFiber
  simp only [List.mem_map, List.mem_filter, List.mem_finRange, true_and, decide_eq_true_eq]
  constructor
  · rintro ⟨q, hq, rfl⟩
    obtain ⟨k, hk⟩ := (h.fiber_r2_a1 _ _).1 hq
    exact ⟨k, by rw [← hk]; rfl⟩
  · rintro ⟨k, rfl⟩
    refine ⟨(⟨2, ![a, b]⟩ : Shape).rowMajor (ix2 n k), ?_, ?_⟩
    · rw [Equiv.symm_apply_apply]
      exact (h.fiber_r2_a1 _ _).2 ⟨k, rfl⟩
    · rw [Equiv.symm_apply_apply]; rfl

/-- The word of the infinity that a minimum starts from. -/
theorem top_word : Ideal.ofBits .f32 0x7F800000#32 = ⊤ := by simp [Ideal.ofBits, Ideal.ieee]

/-- At one place an arg-min is the fold of its reducer over the pairs there. -/
theorem argReduce_fold {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

/-- The arg-min along the rows of a rectangle of 1024 columns is the word of the first least place of the row. -/
theorem argmin_row {a : ℕ} {u : Shape} (d : FVec Ideal ⟨2, ![a, 1024]⟩ .f32) (ix : u.Idx → Ideal .f32) (iy : u.Idx → BitVec 32)
    (h : (⟨2, ![a, 1024]⟩ : Shape).ReducesTo [1] ⟨1, ![a]⟩) (hu : 0 < u.numel) (hx : ix (Shape.Idx.first hu) = (⊤ : EReal))
    (hy : iy (Shape.Idx.first hu) = 0#32) (n : Fin a) :
    (Host.argReduce (reducer_argmin_f32_i32 (F := Ideal)) d (iotaInDim ⟨2, ![a, 1024]⟩ 32 1) ix iy h hu (ix1 n)).2
      = BitVec.ofNat 32 (first fun k => d (ix2 n k)).val := by
  rw [argReduce_fold, hx, hy]
  exact foldl_first _ _ (mem_fiber d h n)

/-- The row number search, as a reduction of each row of distances. -/
theorem argT_def {F : FTy → Type} [FloatOps F] (d : Vec F S12000x1024 .f32) : argT d = fun j =>
    (Host.argReduce reducer_argmin_f32_i32 d (iotaInDim S12000x1024 32 1) (constant S_ .f32 0x7F800000#32) (constantI S_ 32 0#32)
      reducesTo_S12000x1024_S12000_d1 h_S_ j).2 := rfl

/-- The reference's arg-min is the word of the first least place of the row. -/
theorem argT_at (d : FVec Ideal S12000x1024 .f32) (n : Fin 12000) :
    argT (F := Ideal) d (ix1 n) = BitVec.ofNat 32 (first fun k => d (ix2 n k)).val := by
  rw [argT_def]
  exact argmin_row d (constant S_ .f32 0x7F800000#32) (constantI S_ 32 0#32) reducesTo_S12000x1024_S12000_d1 h_S_ top_word rfl n

/-! ## The take -/

/-- A row number in range is not wrapped around. -/
theorem wrapT_at (ix : IVec S12000 32) (n : Fin 12000) (z : Fin 1) (k : Fin 1024) (h : ix (ix1 n) = BitVec.ofNat 32 k.val) :
    wrapT (F := Ideal) ix (ix2 n z) = BitVec.ofNat 32 k.val := by
  have := k.isLt
  pointwise [wrapT]
  rw [h]
  word_cmp
  simp

/-- The rows taken at row numbers in range. -/
theorem takeT_at (ix : IVec S12000 32) (i : Fin 12000) (j : Fin 512) (k : Fin 1024) (h : ix (ix1 i) = BitVec.ofNat 32 k.val) :
    takeT (F := Ideal) cb ix (ix2 i j) = cb (ix2 k j) := by
  have hk := k.isLt
  have hg : Host.gather gather_S1024x512_S12000x1_S12000x512_1_0_n_n_0_1_1512 cb (wrapT (F := Ideal) ix) (ix2 i j) = cb (ix2 k j) :=
    Routing.gather_row _ rfl rfl rfl rfl rfl _ _ i j k (wrapT_at ix i 0 k h) (by decide)
  have hb : IntOp.andi (IntOp.cmpi .sge (BitVec.ofNat 32 k.val) 0#32) (IntOp.cmpi .sle (BitVec.ofNat 32 k.val) 1023#32) = 1#1 := by
    rw [WordCmp.cmpi_sge_ofNat (by omega) (by omega), WordCmp.cmpi_sle_ofNat (by omega) (by omega)]
    have : k.val ≤ 1023 := by omega
    simp [this, IntOp.andi]
  pointwise [takeT]
  rw [hg]
  simp only [wrapT_at ix i _ k h, hb]
  rfl

/-- A layer's loss: the mean of the squared differences, weighted. -/
theorem lossT_at (Q : FVec Ideal S12000x512 .f32) (z : S_.Idx) : lossT (F := Ideal) R Q z
    = Ideal.div (∑ n : Fin 12000, ∑ j : Fin 512, (Q (ix2 n j) - R (ix2 n j)) * (Q (ix2 n j) - R (ix2 n j))) (Ideal.ofBits .f32 0x4ABB8000#32)
      * Ideal.ofBits .f32 0x3DCCCCCD#32 := by
  pointwise [lossT]

/-! ## The stacks -/

/-- The trip's number as a word. -/
theorem iv_eq (q : ℕ) : Scf.iv 0#32 1#32 q = BitVec.ofNat 32 q := by simp [Scf.iv]

/-- The starts of the slices and updates of trip `q`. -/
theorem ctr_word (q : Fin 8) : (Scf.iv 0#32 1#32 q.val).toInt = (q.val : ℤ) := by
  have := q.isLt
  rw [iv_eq]; exact WordCmp.toInt_ofNat_of_lt (by omega)

/-- One layer of a stack of eight codebooks, at an element. -/
theorem slice_at (C : FVec Ideal S8x1024x512 .f32) (st : Fin 3 → ℤ) (h) (q : Fin 8) (h0 : st 0 = q.val) (h1 : st 1 = 0) (h2 : st 2 = 0)
    (z : Fin 1) (k : Fin 1024) (j : Fin 512) :
    Host.dynamicSlice S1x1024x512 C st h (ix3 z k j) = C (ix3 q k j) := by
  have hq := q.isLt
  have e0 := fun hr => Host.clampedStart_of_le (s := S8x1024x512) (t := S1x1024x512) hr st 0 q.val h0 (by show q.val + 1 ≤ 8; omega)
  have e1 := fun hr => Host.clampedStart_of_le (s := S8x1024x512) (t := S1x1024x512) hr st 1 0 h1 (le_refl 1024)
  have e2 := fun hr => Host.clampedStart_of_le (s := S8x1024x512) (t := S1x1024x512) hr st 2 0 h2 (le_refl 512)
  pointwise
  simp only [e0, e1, e2]
  refine congrArg C (congr (congr (congrArg ix3 (Fin.ext ?_)) (Fin.ext ?_)) (Fin.ext ?_))
  · rfl
  · exact Nat.zero_add _
  · exact Nat.zero_add _

/-- The codebook of a trip. -/
theorem layerT_at (C : FVec Ideal S8x1024x512 .f32) (q : Fin 8) (k : Fin 1024) (j : Fin 512) :
    cbK (F := Ideal) C q.val (ix2 k j) = C (ix3 q k j) := by
  unfold cbK layerT
  refine Eq.trans (b := Host.dynamicSlice S1x1024x512 C
    (fun k => ((![ctr (F := Ideal) q.val, zeroI (F := Ideal), zeroI (F := Ideal)] : Fin 3 → Vec Ideal S_ .i32) k (Shape.Idx.first h_S_) : BitVec 32).toInt)
    sliceFits_S8x1024x512_S1x1024x512 (ix3 0 k j)) ?_ (slice_at C _ _ q (ctr_word q) rfl rfl 0 k j)
  generalize Host.dynamicSlice _ _ _ _ = Y
  pointwise

/-- One layer put into a stack of eight layers of codes, at an element. -/
theorem put_codes (X : IVec S8x8x1500 32) (U : IVec S1x8x1500 32) (st : Fin 3 → ℤ) (h) (q : Fin 8) (h0 : st 0 = q.val) (h1 : st 1 = 0) (h2 : st 2 = 0)
    (p b : Fin 8) (t : Fin 1500) :
    Host.dynamicUpdateSlice X U st h (ix3 p b t) = if p = q then U (ix3 0 b t) else X (ix3 p b t) := by
  have hq := q.isLt
  have hp := p.isLt
  have e0 := fun hr => Host.clampedStart_of_le (s := S8x8x1500) (t := S1x8x1500) hr st 0 q.val h0 (by show q.val + 1 ≤ 8; omega)
  have e1 := fun hr => Host.clampedStart_of_le (s := S8x8x1500) (t := S1x8x1500) hr st 1 0 h1 (le_refl 8)
  have e2 := fun hr => Host.clampedStart_of_le (s := S8x8x1500) (t := S1x8x1500) hr st 2 0 h2 (le_refl 1500)
  pointwise
  simp only [e0, e1, e2]
  by_cases hpq : p = q
  · subst hpq
    rw [dif_pos (by omega), if_pos rfl]
    simp
  · have : p.val ≠ q.val := fun h => hpq (Fin.ext h)
    rw [dif_neg (by omega), if_neg hpq]

/-- One layer put into a stack of eight layers of rows, at an element. -/
theorem put_quants (X : FVec Ideal S8x8x1500x512 .f32) (U : FVec Ideal S1x8x1500x512 .f32) (st : Fin 4 → ℤ) (h) (q : Fin 8) (h0 : st 0 = q.val) (h1 : st 1 = 0)
    (h2 : st 2 = 0) (h3 : st 3 = 0) (p b : Fin 8) (t : Fin 1500) (j : Fin 512) :
    Host.dynamicUpdateSlice X U st h (ix4 p b t j) = if p = q then U (ix4 0 b t j) else X (ix4 p b t j) := by
  have hq := q.isLt
  have hp := p.isLt
  have e0 := fun hr => Host.clampedStart_of_le (s := S8x8x1500x512) (t := S1x8x1500x512) hr st 0 q.val h0 (by show q.val + 1 ≤ 8; omega)
  have e1 := fun hr => Host.clampedStart_of_le (s := S8x8x1500x512) (t := S1x8x1500x512) hr st 1 0 h1 (le_refl 8)
  have e2 := fun hr => Host.clampedStart_of_le (s := S8x8x1500x512) (t := S1x8x1500x512) hr st 2 0 h2 (le_refl 1500)
  have e3 := fun hr => Host.clampedStart_of_le (s := S8x8x1500x512) (t := S1x8x1500x512) hr st 3 0 h3 (le_refl 512)
  pointwise
  simp only [e0, e1, e2, e3]
  by_cases hpq : p = q
  · subst hpq
    rw [dif_pos (by omega), if_pos rfl]
    simp
  · have : p.val ≠ q.val := fun h => hpq (Fin.ext h)
    rw [dif_neg (by omega), if_neg hpq]

/-- A token's place among all the tokens. -/
abbrev flat (b : Fin 8) (t : Fin 1500) : Fin 12000 := ⟨b.val * 1500 + t.val, by omega⟩

/-- A trip writes its own layer of the codes, -/
theorem putCodes_at (X : IVec S8x8x1500 32) (q : Fin 8) (ix : IVec S12000 32) (p b : Fin 8) (t : Fin 1500) :
    putCodes (F := Ideal) X (ctr (F := Ideal) q.val) ix (ix3 p b t) = if p = q then ix (ix1 (flat b t)) else X (ix3 p b t) := by
  unfold putCodes
  refine (put_codes X _ _ _ q (ctr_word q) rfl rfl p b t).trans ?_
  pointwise

/-- and its own layer of the rows. -/
theorem putQuants_at (X : FVec Ideal S8x8x1500x512 .f32) (q : Fin 8) (Q : FVec Ideal S12000x512 .f32) (p b : Fin 8) (t : Fin 1500) (j : Fin 512) :
    putQuants (F := Ideal) X (ctr (F := Ideal) q.val) Q (ix4 p b t j) = if p = q then Q (ix2 (flat b t) j) else X (ix4 p b t j) := by
  unfold putQuants
  refine (put_quants X _ _ _ q (ctr_word q) rfl rfl rfl p b t j).trans ?_
  pointwise

end Cert.Ref

end
-- ==== Proof.RefVals.lean ====
/- What the reference carries from layer to layer, over the extended reals: the residuals, sums, row numbers, rows and loss of
   the spec; and its results. -/
module

public import proofs.«01_k».proof.Proof.RefPure

@[expose] public section

set_option maxRecDepth 16384

noncomputable section

open scoped BigOperators

namespace Cert.Ref

open Cert.ReferenceIdeal Cert.ReferenceIdeal.Gen
open Idealize.ShloMosaic Idealize.ShloMosaic.TcCoe
open Cert.Vq

variable (C : FVec Ideal SC .f32) (X : FVec Ideal SX .f32)

/-- The codebook of a trip is the layer's. -/
theorem book_layer (q : Fin 8) : book (cbK (F := Ideal) C q.val) = bk C q.val := by
  funext k j
  have hq := q.isLt
  refine (layerT_at C q k j).trans (congrArg (fun q => C (ix3 q k j)) (Fin.ext ?_))
  show q.val = q.val % 8
  omega

section Layer

variable (q : Fin 8) (R : FVec Ideal S12000x512 .f32) (hR : ∀ b t, tok R (flat b t) = resid (bk C) (tk X b t) q.val)
include hR

/-- The row number found is the spec's choice. -/
theorem ixOf_at (b : Fin 8) (t : Fin 1500) : ixOf (F := Ideal) C q.val R (ix1 (flat b t)) = BitVec.ofNat 32 (code (bk C) (tk X b t) q.val).val := by
  unfold ixOf
  rw [argT_at]
  have e : (fun k => distT (F := Ideal) (cbK C q.val) R (ix2 (flat b t) k)) = sqd (bk C q.val) (resid (bk C) (tk X b t) q.val) := by
    funext k
    rw [distT_at, book_layer, hR]
  rw [e]; rfl

/-- The row taken is the one the spec quantises to. -/
theorem qOf_at (b : Fin 8) (t : Fin 1500) (j : Fin 512) : qOf (F := Ideal) C q.val R (ix2 (flat b t) j) = quant (bk C) (tk X b t) q.val j := by
  unfold qOf
  rw [takeT_at _ _ _ _ _ (ixOf_at C X q R hR b t)]
  exact congrFun (congrFun (book_layer C q) _) j

end Layer

/-! One trip, entry by entry. -/

/-- The residual loses the row taken. -/
theorem next_res (k : ℕ) (p : Carried Ideal) (i : S12000x512.Idx) : (next (F := Ideal) C k p).res i = (p.res i - qOf (F := Ideal) C k p.res i : EReal) := rfl

/-- The sum gains the row taken, as a correction of the residual. -/
theorem next_xq (k : ℕ) (p : Carried Ideal) (i : S12000x512.Idx) :
    (next (F := Ideal) C k p).xq i = (p.xq i + (p.res i + (qOf (F := Ideal) C k p.res i - p.res i)) : EReal) := rfl

/-- The loss gains the layer's. -/
theorem next_loss (k : ℕ) (p : Carried Ideal) (z : S_.Idx) :
    (next (F := Ideal) C k p).loss z = (p.loss z + lossT (F := Ideal) p.res (qOf (F := Ideal) C k p.res) z : EReal) := rfl

/-- The residuals and sums, and the row numbers and rows written so far, before trip `q`. -/
theorem carried_at : ∀ q, q ≤ 8 → (∀ b t, tok (Ref.carried (F := Ideal) C X q).res (flat b t) = resid (bk C) (tk X b t) q)
    ∧ (∀ b t j, (Ref.carried (F := Ideal) C X q).xq (ix2 (flat b t) j) = sum (bk C) (tk X b t) q j)
    ∧ (∀ p b t, (Ref.carried (F := Ideal) C X q).codes (ix3 p b t) = if p.val < q then codesG C X (ix3 p b t) else 0#32)
    ∧ (∀ p b t j, (Ref.carried (F := Ideal) C X q).quants (ix4 p b t j) = if p.val < q then quantsG C X (ix4 p b t j) else 0)
  | 0, _ => by
    refine ⟨fun b t => ?_, fun b t j => ?_, fun p b t => ?_, fun p b t j => ?_⟩
    · funext j
      show shapeCast S12000x512 X shapeCasts_S8x1500x512_S12000x512 (ix2 (flat b t) j) = X (ix3 b t j)
      pointwise
      have hb := b.isLt
      have ht := t.isLt
      exact congrArg₂ (fun a b => X (ix3 a b j)) (Fin.ext (show (b.val * 1500 + t.val) / 1500 = b.val by omega))
        (Fin.ext (show (b.val * 1500 + t.val) % 1500 = t.val by omega))
    · show broadcastInDim S12000x512 ![] bcast_S_S12000x512 (zeroF (F := Ideal)) (ix2 (flat b t) j) = (0 : EReal)
      pointwise [zeroF]
    · rw [if_neg (Nat.not_lt_zero _)]; rfl
    · rw [if_neg (Nat.not_lt_zero _)]
      show broadcastInDim S8x8x1500x512 ![] bcast_S_S8x8x1500x512 (zeroF (F := Ideal)) (ix4 p b t j) = (0 : EReal)
      pointwise [zeroF]
  | q + 1, hq => by
    obtain ⟨h1, h2, h3, h4⟩ := carried_at q (by omega)
    have hx := ixOf_at C X ⟨q, by omega⟩ _ h1
    have hQ := qOf_at C X ⟨q, by omega⟩ _ h1
    refine ⟨fun b t => ?_, fun b t j => ?_, fun p b t => ?_, fun p b t j => ?_⟩
    · funext j
      have h := congrFun (h1 b t) j
      exact (next_res C q _ _).trans (congrArg₂ (· - ·) h (hQ b t j))
    · have h := congrFun (h1 b t) j
      exact (next_xq C q _ _).trans (congrArg₂ (· + ·) (h2 b t j) (congrArg₂ (· + ·) h (congrArg₂ (· - ·) (hQ b t j) h)))
    · refine (putCodes_at _ ⟨q, by omega⟩ _ p b t).trans ?_
      by_cases hp : p.val = q
      · rw [if_pos (Fin.ext hp), if_pos (by omega), hx b t]
        subst hp; rfl
      · rw [if_neg (fun h => hp (congrArg Fin.val h)), h3]
        have : p.val < q ↔ p.val < q + 1 := by omega
        simp only [this]
    · refine (putQuants_at _ ⟨q, by omega⟩ _ p b t j).trans ?_
      by_cases hp : p.val = q
      · rw [if_pos (Fin.ext hp), if_pos (by omega), hQ b t j]
        subst hp; rfl
      · rw [if_neg (fun h => hp (congrArg Fin.val h)), h4]
        have : p.val < q ↔ p.val < q + 1 := by omega
        simp only [this]

/-! ## The loss -/

/-- The number of residual entries that the mean divides by. -/
theorem count_eq : Ideal.ofBits .f32 0x4ABB8000#32 = ((6144000 : ℝ) : EReal) := by
  simp [Ideal.ofBits, Ideal.ieee, -EReal.coe_mul]
  norm_num

/-- The weight of the loss: the f32 word nearest a tenth. -/
theorem tenth_eq : Ideal.ofBits .f32 0x3DCCCCCD#32 = ((13421773 / 134217728 : ℝ) : EReal) := by
  simp [Ideal.ofBits, Ideal.ieee, -EReal.coe_mul]
  norm_num

/-- The loss before trip `q`. -/
theorem loss_at (hC : ∀ i, Fin' (C i)) (hX : ∀ i, Fin' (X i)) (z : S_.Idx) : ∀ q, q ≤ 8 →
    (Ref.carried (F := Ideal) C X q).loss z
      = (((∑ p ∈ Finset.range q, ∑ b, ∑ t, lowR C X p b t) * (13421773 / 824633720832000) : ℝ) : EReal)
  | 0, _ => by
    show zeroF (F := Ideal) z = _
    pointwise [zeroF]
    simp
  | q + 1, hq => by
    have h1 := (carried_at C X q (by omega)).1
    have hQ := qOf_at C X ⟨q, by omega⟩ _ h1
    have hL : lossT (F := Ideal) (Ref.carried (F := Ideal) C X q).res (qOf (F := Ideal) C q (Ref.carried (F := Ideal) C X q).res) z
        = (((∑ b, ∑ t, lowR C X q b t) * (13421773 / 824633720832000) : ℝ) : EReal) := by
      rw [lossT_at, Fin.sum_univ_tiles 8 1500 rfl]
      have e : ∀ (b : Fin 8) (t : Fin 1500), ∑ j : Fin 512, (qOf (F := Ideal) C q (Ref.carried (F := Ideal) C X q).res (ix2 (flat b t) j) - (Ref.carried (F := Ideal) C X q).res (ix2 (flat b t) j))
          * (qOf (F := Ideal) C q (Ref.carried (F := Ideal) C X q).res (ix2 (flat b t) j) - (Ref.carried (F := Ideal) C X q).res (ix2 (flat b t) j)) = (lowR C X q b t : EReal) := fun b t => by
        rw [← square_coe hC hX]
        refine Finset.sum_congr rfl fun j _ => ?_
        have e2 : qOf (F := Ideal) C q (Ref.carried (F := Ideal) C X q).res (ix2 (flat b t) j) - (Ref.carried (F := Ideal) C X q).res (ix2 (flat b t) j)
            = quant (bk C) (tk X b t) q j - resid (bk C) (tk X b t) q j := congrArg₂ (· - ·) (hQ b t j) (congrFun (h1 b t) j)
        rw [e2]
      have e3 : (∑ b : Fin 8, ∑ t : Fin 1500, ∑ j : Fin 512, (qOf (F := Ideal) C q (Ref.carried (F := Ideal) C X q).res (ix2 (flat b t) j) - (Ref.carried (F := Ideal) C X q).res (ix2 (flat b t) j))
          * (qOf (F := Ideal) C q (Ref.carried (F := Ideal) C X q).res (ix2 (flat b t) j) - (Ref.carried (F := Ideal) C X q).res (ix2 (flat b t) j)))
          = ((∑ b, ∑ t, lowR C X q b t : ℝ) : EReal) := by
        rw [coe_sum]
        refine Finset.sum_congr rfl fun b _ => ?_
        rw [coe_sum]
        exact Finset.sum_congr rfl fun t _ => e b t
      refine (congrArg (fun s => Ideal.div s (Ideal.ofBits .f32 0x4ABB8000#32) * Ideal.ofBits .f32 0x3DCCCCCD#32) e3).trans ?_
      show Ideal.div _ _ * _ = _
      rw [count_eq, tenth_eq, Ideal.div_coe (by norm_num), ← EReal.coe_mul, ← EReal.coe_mul]
      congr 1
      ring
    refine (next_loss C q _ z).trans ((congrArg₂ (· + ·) (loss_at hC hX z q (by omega)) hL).trans ?_)
    show ((_ : ℝ) : EReal) + ((_ : ℝ) : EReal) = _
    rw [← EReal.coe_add, Finset.sum_range_succ, add_mul]

/-! ## The results -/

/-- The first result is the sum of the layers. -/
theorem out_xq : shapeCast S8x1500x512 (Ref.carried (F := Ideal) C X 8).xq shapeCasts_S12000x512_S8x1500x512 = xqG C X := by
  have h := (carried_at C X 8 le_rfl).2.1
  generalize (Ref.carried (F := Ideal) C X 8).xq = f at h ⊢
  funext i
  obtain ⟨b, t, j, rfl⟩ : ∃ (b : Fin 8) (t : Fin 1500) (j : Fin 512), i = ix3 b t j := ⟨i 0, i 1, i 2, by idx_ext⟩
  refine Eq.trans ?_ (h b t j)
  pointwise

/-- The second: the chosen rows' numbers. -/
theorem out_codes : (Ref.carried (F := Ideal) C X 8).codes = codesG C X := by
  have h := (carried_at C X 8 le_rfl).2.2.1
  generalize (Ref.carried (F := Ideal) C X 8).codes = f at h ⊢
  funext i
  obtain ⟨p, b, t, rfl⟩ : ∃ (p : Fin 8) (b : Fin 8) (t : Fin 1500), i = ix3 p b t := ⟨i 0, i 1, i 2, by idx_ext⟩
  exact (h p b t).trans (if_pos p.isLt)

/-- The fourth: the chosen rows. -/
theorem out_quants : (Ref.carried (F := Ideal) C X 8).quants = quantsG C X := by
  have h := (carried_at C X 8 le_rfl).2.2.2
  generalize (Ref.carried (F := Ideal) C X 8).quants = f at h ⊢
  funext i
  obtain ⟨p, b, t, j, rfl⟩ : ∃ (p : Fin 8) (b : Fin 8) (t : Fin 1500) (j : Fin 512), i = ix4 p b t j := ⟨i 0, i 1, i 2, i 3, by idx_ext⟩
  exact (h p b t j).trans (if_pos p.isLt)

/-- The third, of finite arguments: the weighted mean of the squared differences, summed over the layers. -/
theorem out_loss (hC : ∀ i, Fin' (C i)) (hX : ∀ i, Fin' (X i)) : (Ref.carried (F := Ideal) C X 8).loss = fun _ => (total C X : EReal) := by
  funext z
  rw [loss_at C X hC hX z 8 le_rfl, Finset.sum_range]
  rfl

/-- The fifth: the first layer's distances. -/
theorem out_dist : shapeCast S8x1500x1024
    (distT (F := Ideal) (shapeCast S1024x512 (extractStridedSlice S1x1024x512 ![0, 0, 0] C slices_S8x1024x512_S1x1024x512_0_0_0) shapeCasts_S1x1024x512_S1024x512)
      (shapeCast S12000x512 X shapeCasts_S8x1500x512_S12000x512)) shapeCasts_S12000x1024_S8x1500x1024 = distG C X := by
  have hB : book (shapeCast S1024x512 (extractStridedSlice S1x1024x512 ![0, 0, 0] C slices_S8x1024x512_S1x1024x512_0_0_0) shapeCasts_S1x1024x512_S1024x512)
      = bk C 0 := by
    funext k j
    show shapeCast S1024x512 _ _ (ix2 k j) = C (ix3 _ k j)
    pointwise
  have h := fun b t k => (distT_at (shapeCast S12000x512 X shapeCasts_S8x1500x512_S12000x512)
    (shapeCast S1024x512 (extractStridedSlice S1x1024x512 ![0, 0, 0] C slices_S8x1024x512_S1x1024x512_0_0_0) shapeCasts_S1x1024x512_S1024x512)
    (flat b t) k).trans (congrArg₂ (sqd · · k) hB ((carried_at C X 0 (Nat.zero_le _)).1 b t))
  generalize distT (F := Ideal) _ _ = f at h ⊢
  funext i
  obtain ⟨b, t, j, rfl⟩ : ∃ (b : Fin 8) (t : Fin 1500) (j : Fin 1024), i = ix3 b t j := ⟨i 0, i 1, i 2, by idx_ext⟩
  refine Eq.trans ?_ (h b t j)
  pointwise

end Cert.Ref

end
-- ==== Proof.Algebraic.lean ====
/- The algebraic claim: on finite arguments the idealized kernel and the reference end with the same five results. -/
module

public import proofs.«01_k».proof.Defs
public import proofs.«01_k».proof.Proof.KernelEnd
public import proofs.«01_k».proof.Proof.RefRun
public import proofs.«01_k».proof.Proof.RefVals
public import Idealize.ShloMosaic.Lib.KernelVsHost

@[expose] public section

set_option maxRecDepth 16384

noncomputable section

namespace Cert.Proof

open Idealize.ShloMosaic Idealize.ShloMosaic.TcCoe
open Cert.Vq

/-- The shapes that the precondition broadcasts to. -/
theorem preFacts : Cert.Pre_finite.Facts where
  bcast_S_S8x1500x512 := by decide
  bcast_S_S8x1024x512 := by decide

/-- A value whose magnitude compares below infinity is finite. -/
theorem fin_of_olt (x : Ideal .f32)
    (h : FloatOps.cmpf .olt (FloatOps.hostAbsf x) (FloatOps.ofBits (F := Ideal) .f32 0x7F800000#32) = 1#1) : Fin' x := by
  rw [← Ideal.xori_weird_eq_hostAbsf_olt_inf] at h
  by_contra hx
  have e : (FloatOps.weird x : BitVec 1) = 1#1 := by
    show BitVec.ofBool (decide ((x : EReal) = ⊤ ∨ (x : EReal) = ⊥)) = 1#1
    rw [decide_eq_true (by unfold Fin' at hx; tauto)]; rfl
  rw [e] at h
  exact absurd h (by decide)

section

variable (m : (ℓ : Loc Cert.KernelIdeal.nD Cert.KernelIdeal.τ Cert.KernelIdeal.sig) → Buf (Elt Ideal) ℓ)
  (h : Pre_KernelIdeal_finite (hPre_finite := preFacts) m) (c : Dev Cert.KernelIdeal.nD)
include h

/-- Under the precondition the tokens are finite, -/
theorem finite_X (i : SX.Idx) : Fin' (Rvq.argX m c i) := fin_of_olt _ (congrFun (h c).1 i)

/-- and so are the codebooks. -/
theorem finite_C (i : SC.Idx) : Fin' (Rvq.argC m c i) := fin_of_olt _ (congrFun (h c).2 i)

end

/-- On finite arguments, equal for both, the idealized kernel and the reference end with equal results. -/
theorem algebraic : algebraic_KernelIdeal_ReferenceIdeal_pre_finite (hKernelIdeal := Cert.KernelIdeal.Gen.facts)
    (hReferenceIdeal := Cert.ReferenceIdeal.Gen.facts) (hPre_finite := preFacts) := by
  intro m g m' g' hpre hm
  have hX := finite_X m hpre
  have hC := finite_C m hpre
  refine ⟨fun c => xqG (Rvq.argC m c) (Rvq.argX m c), fun c => codesG (Rvq.argC m c) (Rvq.argX m c),
    fun c => (fun _ => (total (Rvq.argC m c) (Rvq.argX m c) : EReal)), fun c => quantsG (Rvq.argC m c) (Rvq.argX m c),
    fun c => distG (Rvq.argC m c) (Rvq.argX m c), Rvq.results m g hC hX,
    (θ_run Cert.ReferenceIdeal.defs _ _).mono (fun r hr c => ?_) (Ref.run m' g')⟩
  obtain ⟨hf, -⟩ := hr
  obtain ⟨⟨e0, e1⟩, x, k, l, q, d⟩ := Ref.final_vals m' c (Rvq.argX m c) (hm c).1 (Rvq.argC m c) (hm c).2
  exact ⟨(hf c _ rfl).trans (x.trans (Ref.out_xq _ _)), (hf c _ rfl).trans (k.trans (Ref.out_codes _ _)),
    (hf c _ rfl).trans (l.trans (Ref.out_loss _ _ (hC c) (hX c))), (hf c _ rfl).trans (q.trans (Ref.out_quants _ _)),
    (hf c _ rfl).trans (d.trans (Ref.out_dist _ _)), (hf c _ rfl).trans (e0.trans (hm c).1.symm), (hf c _ rfl).trans (e1.trans (hm c).2.symm)⟩

end Cert.Proof

end
-- ==== Proof.lean ====
/- The proof of the certificate's claim. -/
module

public import proofs.«01_k».proof.Defs
public import proofs.«01_k».proof.Proof.Frames
public import proofs.«01_k».proof.Proof.Algebraic

@[expose] public section

namespace Cert.Proof

/-- Every claim of the certificate. -/
theorem claim : Cert.Claim :=
  ⟨Cert.Kernel.Gen.facts, Cert.KernelIdeal.Gen.facts, Cert.ReferenceIdeal.Gen.facts, preFacts,
    kernel_runs, kernelIdeal_runs, fun m g _ => kernelIdeal_runs m g trivial, referenceIdeal_runs,
    fun m g _ => referenceIdeal_runs m g trivial, preserves, algebraic⟩

end Cert.Proof

end
